-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_populated [hPre_finite_and_populated : Cert.Pre_finite_and_populated.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_populated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_populated [hPre_finite_and_populated : Cert.Pre_finite_and_populated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_populated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_and_populated [hKernelIdeal : Cert.KernelIdeal.Facts] [hPre_finite_and_populated : Cert.Pre_finite_and_populated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_populated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_and_populated [hReferenceIdeal : Cert.ReferenceIdeal.Facts] [hPre_finite_and_populated : Cert.Pre_finite_and_populated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_populated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_finite_and_populated [hKernelIdeal : Cert.KernelIdeal.Facts] [hReferenceIdeal : Cert.ReferenceIdeal.Facts] [hPre_finite_and_populated : Cert.Pre_finite_and_populated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_populated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_and_populated : Cert.Pre_finite_and_populated.Facts),
    quiescent_Kernel (hKernel := hKernel)
    ∧ quiescent_KernelIdeal (hKernelIdeal := hKernelIdeal)
    ∧ quiescent_KernelIdeal_pre_finite_and_populated (hKernelIdeal := hKernelIdeal) (hPre_finite_and_populated := hPre_finite_and_populated)
    ∧ quiescent_ReferenceIdeal (hReferenceIdeal := hReferenceIdeal)
    ∧ quiescent_ReferenceIdeal_pre_finite_and_populated (hReferenceIdeal := hReferenceIdeal) (hPre_finite_and_populated := hPre_finite_and_populated)
    ∧ preserves_Kernel_KernelIdeal
    ∧ algebraic_KernelIdeal_ReferenceIdeal_pre_finite_and_populated (hKernelIdeal := hKernelIdeal) (hReferenceIdeal := hReferenceIdeal) (hPre_finite_and_populated := hPre_finite_and_populated)
-- ==== Pre_finite_and_populated.lean ====
abbrev S1x8x512 : Shape := ⟨3, ![1, 8, 512]⟩
abbrev S1x8x256 : Shape := ⟨3, ![1, 8, 256]⟩
abbrev S10000x256 : Shape := ⟨2, ![10000, 256]⟩
abbrev S10000 : Shape := ⟨1, ![10000]⟩
abbrev S256x512 : Shape := ⟨2, ![256, 512]⟩
abbrev S256 : Shape := ⟨1, ![256]⟩
abbrev S768x256 : Shape := ⟨2, ![768, 256]⟩
abbrev S768 : Shape := ⟨1, ![768]⟩
abbrev S256x256 : Shape := ⟨2, ![256, 256]⟩
abbrev S256x768 : Shape := ⟨2, ![256, 768]⟩
abbrev S512x256 : Shape := ⟨2, ![512, 256]⟩
abbrev S512 : Shape := ⟨1, ![512]⟩
abbrev S_ : Shape := ⟨0, ![]⟩
abbrev S10000x1 : Shape := ⟨2, ![10000, 1]⟩
abbrev S8 : Shape := ⟨1, ![8]⟩
abbrev S1x8 : Shape := ⟨2, ![1, 8]⟩
abbrev S10000x8 : Shape := ⟨2, ![10000, 8]⟩

class Facts : Prop where
  bcast_S_S1x8x256 : S_.BroadcastsInDim S1x8x256 (![] : Fin 0 → Fin S1x8x256.rank)
  reducesTo_S1x8x256_S_d0_1_2 : S1x8x256.ReducesTo [0, 1, 2] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S10000 : S_.BroadcastsInDim S10000 (![] : Fin 0 → Fin S10000.rank)
  reducesTo_S10000_S_d0 : S10000.ReducesTo [0] S_
  bcast_S10000_S10000x1_0 : S10000.BroadcastsInDim S10000x1 (![0] : Fin 1 → Fin S10000x1.rank)
  bcast_S8_S1x8_1 : S8.BroadcastsInDim S1x8 (![1] : Fin 1 → Fin S1x8.rank)
  bcast_S10000x1_S10000x8_0_1 : S10000x1.BroadcastsInDim S10000x8 (![0, 1] : Fin 2 → Fin S10000x8.rank)
  bcast_S1x8_S10000x8_0_1 : S1x8.BroadcastsInDim S10000x8 (![0, 1] : Fin 2 → Fin S10000x8.rank)
  reducesTo_S10000x8_S8_d0 : S10000x8.ReducesTo [0] S8
  reducesTo_S8_S_d0 : S8.ReducesTo [0] S_

variable [Facts]

def fn_part1 {F : FTy → Type} [FloatOps F] (main_arg3 : IVec S10000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 32 := constantI S_ 32 0#32
  let main_v19 : IVec S10000 32 := broadcastInDim S10000 ![] bcast_S_S10000 main_c_6
  let main_v20 : IVec S10000 1 := cmpi .sge main_arg3 main_v19
  let main_c_7 : IVec S_ 32 := constantI S_ 32 8#32
  let main_v21 : IVec S10000 32 := broadcastInDim S10000 ![] bcast_S_S10000 main_c_7
  let main_v22 : IVec S10000 1 := cmpi .slt main_arg3 main_v21
  let main_v23 : IVec S10000 1 := andi main_v20 main_v22
  let main_c_8 : IVec S_ 1 := constantI S_ 1 1#1
  let main_v24 : IVec S_ 1 := (fun x v => Host.reduce IntOp.andi x v reducesTo_S10000_S_d0 h_S_) main_v23 main_c_8
  let main_v25 : IVec S10000x1 32 := broadcastInDim S10000x1 ![0] bcast_S10000_S10000x1_0 main_arg3
  let main_v26 : IVec S8 32 := iotaInDim S8 32 0
  let main_v27 : IVec S1x8 32 := broadcastInDim S1x8 ![1] bcast_S8_S1x8_1 main_v26
  let main_v28 : IVec S10000x8 32 := broadcastInDim S10000x8 ![0, 1] bcast_S10000x1_S10000x8_0_1 main_v25
  let main_v29 : IVec S10000x8 32 := broadcastInDim S10000x8 ![0, 1] bcast_S1x8_S10000x8_0_1 main_v27
  let main_v30 : IVec S10000x8 1 := cmpi .eq main_v28 main_v29
  let main_c_9 : IVec S_ 1 := constantI S_ 1 0#1
  let main_v31 : IVec S8 1 := (fun x v => Host.reduce IntOp.ori x v reducesTo_S10000x8_S8_d0 h_S_) main_v30 main_c_9
  let main_c_10 : IVec S_ 1 := constantI S_ 1 1#1
  let main_v32 : IVec S_ 1 := (fun x v => Host.reduce IntOp.andi x v reducesTo_S8_S_d0 h_S_) main_v31 main_c_10
  let main_v33 : IVec S_ 1 := andi main_v18 main_v24
  let main_v34 : IVec S_ 1 := andi main_v33 main_v32
  main_v34

def fn {F : FTy → Type} [FloatOps F] (main_arg0 : FVec F S1x8x512 .f32) (main_arg1 : FVec F S1x8x256 .f32) (main_arg2 : FVec F S10000x256 .f32) (main_arg3 : IVec S10000 32) (main_arg4 : FVec F S256x512 .f32) (main_arg5 : FVec F S256 .f32) (main_arg6 : FVec F S768x256 .f32) (main_arg7 : FVec F S768x256 .f32) (main_arg8 : FVec F S768 .f32) (main_arg9 : FVec F S768 .f32) (main_arg10 : FVec F S256x256 .f32) (main_arg11 : FVec F S256 .f32) (main_arg12 : FVec F S256x768 .f32) (main_arg13 : FVec F S256 .f32) (main_arg14 : FVec F S512x256 .f32) (main_arg15 : FVec F S512 .f32) : IVec S_ 1 :=
  let main_v0 : FVec F S1x8x256 .f32 := Host.absf main_arg1
  let main_cst : FVec F S_ .f32 := constant S_ .f32 0x7F800000#32
  let main_v1 : FVec F S1x8x256 .f32 := broadcastInDim S1x8x256 ![] bcast_S_S1x8x256 main_cst
  let main_v2 : IVec S1x8x256 1 := cmpf .olt main_v0 main_v1
  let main_c : IVec S_ 1 := constantI S_ 1 1#1
  let main_v3 : IVec S_ 1 := (fun x v => Host.reduce IntOp.andi x v reducesTo_S1x8x256_S_d0_1_2 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x256 .f32 := Host.absf main_arg10
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg11
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg3 main_v13 main_v16
-- ==== Kernel.lean ====
abbrev S1x8x512 : Shape := ⟨3, ![1, 8, 512]⟩
abbrev S1x8x256 : Shape := ⟨3, ![1, 8, 256]⟩
abbrev S10000x256 : Shape := ⟨2, ![10000, 256]⟩
abbrev S10000 : Shape := ⟨1, ![10000]⟩
abbrev S256x512 : Shape := ⟨2, ![256, 512]⟩
abbrev S256 : Shape := ⟨1, ![256]⟩
abbrev S768x256 : Shape := ⟨2, ![768, 256]⟩
abbrev S768 : Shape := ⟨1, ![768]⟩
abbrev S256x256 : Shape := ⟨2, ![256, 256]⟩
abbrev S256x768 : Shape := ⟨2, ![256, 768]⟩
abbrev S512x256 : Shape := ⟨2, ![512, 256]⟩
abbrev S512 : Shape := ⟨1, ![512]⟩
abbrev S8x512 : Shape := ⟨2, ![8, 512]⟩
abbrev S8x10000 : Shape := ⟨2, ![8, 10000]⟩
abbrev S2 : Shape := ⟨1, ![2]⟩
abbrev S1 : Shape := ⟨1, ![1]⟩
abbrev S_ : Shape := ⟨0, ![]⟩
abbrev S5120x256 : Shape := ⟨2, ![5120, 256]⟩
abbrev S4880x256 : Shape := ⟨2, ![4880, 256]⟩
abbrev S8x256 : Shape := ⟨2, ![8, 256]⟩
abbrev S1x256 : Shape := ⟨2, ![1, 256]⟩
abbrev S8x768 : Shape := ⟨2, ![8, 768]⟩
abbrev S1x768 : Shape := ⟨2, ![1, 768]⟩
abbrev S1x10000 : Shape := ⟨2, ![1, 10000]⟩
abbrev S8x1 : Shape := ⟨2, ![8, 1]⟩
abbrev S8x8 : Shape := ⟨2, ![8, 8]⟩
abbrev S8x5120 : Shape := ⟨2, ![8, 5120]⟩
abbrev S8 : Shape := ⟨1, ![8]⟩
abbrev S1x5120 : Shape := ⟨2, ![1, 5120]⟩
abbrev S8x4880 : Shape := ⟨2, ![8, 4880]⟩
abbrev S1x4880 : Shape := ⟨2, ![1, 4880]⟩
abbrev S1x512 : Shape := ⟨2, ![1, 512]⟩

abbrev nBuf : Space → Nat
  | .hbm => 19
  | .vmem => 20
  | .smem => 0
  | _ => 0

abbrev bufTy : (tb : Table) → Fin (tcTables nBuf tb) → BufTy
  | .hbm, ⟨0, _⟩ => ⟨S1x8x512, .f32⟩
  | .hbm, ⟨1, _⟩ => ⟨S1x8x256, .f32⟩
  | .hbm, ⟨2, _⟩ => ⟨S10000x256, .f32⟩
  | .hbm, ⟨3, _⟩ => ⟨S10000, .i32⟩
  | .hbm, ⟨4, _⟩ => ⟨S256x512, .f32⟩
  | .hbm, ⟨5, _⟩ => ⟨S256, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S256x256, .f32⟩
  | .hbm, ⟨11, _⟩ => ⟨S256, .f32⟩
  | .hbm, ⟨12, _⟩ => ⟨S256x768, .f32⟩
  | .hbm, ⟨13, _⟩ => ⟨S256, .f32⟩
  | .hbm, ⟨14, _⟩ => ⟨S512x256, .f32⟩
  | .hbm, ⟨15, _⟩ => ⟨S512, .f32⟩
  | .hbm, ⟨16, _⟩ => ⟨S8x512, .f32⟩
  | .hbm, ⟨17, _⟩ => ⟨S1x8x256, .f32⟩
  | .hbm, ⟨18, _⟩ => ⟨S8x10000, .f32⟩
  | .local _ .vmem, ⟨0, _⟩ => ⟨S1x8x512, .f32⟩
  | .local _ .vmem, ⟨1, _⟩ => ⟨S1x8x256, .f32⟩
  | .local _ .vmem, ⟨2, _⟩ => ⟨S10000, .i32⟩
  | .local _ .vmem, ⟨3, _⟩ => ⟨S256x512, .f32⟩
  | .local _ .vmem, ⟨4, _⟩ => ⟨S256, .f32⟩
  | .local _ .vmem, ⟨5, _⟩ => ⟨S768x256, .f32⟩
  | .local _ .vmem, ⟨6, _⟩ => ⟨S768x256, .f32⟩
  | .local _ .vmem, ⟨7, _⟩ => ⟨S768, .f32⟩
  | .local _ .vmem, ⟨8, _⟩ => ⟨S768, .f32⟩
  | .local _ .vmem, ⟨9, _⟩ => ⟨S256x256, .f32⟩
  | .local _ .vmem, ⟨10, _⟩ => ⟨S256, .f32⟩
  | .local _ .vmem, ⟨11, _⟩ => ⟨S256x768, .f32⟩
  | .local _ .vmem, ⟨12, _⟩ => ⟨S256, .f32⟩
  | .local _ .vmem, ⟨13, _⟩ => ⟨S512x256, .f32⟩
  | .local _ .vmem, ⟨14, _⟩ => ⟨S512, .f32⟩
  | .local _ .vmem, ⟨15, _⟩ => ⟨S8x512, .f32⟩
  | .local _ .vmem, ⟨16, _⟩ => ⟨S1x8x256, .f32⟩
  | .local _ .vmem, ⟨17, _⟩ => ⟨S8x10000, .f32⟩
  | .local _ .vmem, ⟨18, _⟩ => ⟨S10000x256, .f32⟩
  | .local _ .vmem, ⟨19, _⟩ => ⟨S8x10000, .f32⟩
  | _, _ => ⟨S1x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1x8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x10000 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== ReferenceIdeal.lean ====
abbrev S1x8x512 : Shape := ⟨3, ![1, 8, 512]⟩
abbrev S1x8x256 : Shape := ⟨3, ![1, 8, 256]⟩
abbrev S10000x256 : Shape := ⟨2, ![10000, 256]⟩
abbrev S10000 : Shape := ⟨1, ![10000]⟩
abbrev S256x512 : Shape := ⟨2, ![256, 512]⟩
abbrev S256 : Shape := ⟨1, ![256]⟩
abbrev S768x256 : Shape := ⟨2, ![768, 256]⟩
abbrev S768 : Shape := ⟨1, ![768]⟩
abbrev S256x256 : Shape := ⟨2, ![256, 256]⟩
abbrev S256x768 : Shape := ⟨2, ![256, 768]⟩
abbrev S512x256 : Shape := ⟨2, ![512, 256]⟩
abbrev S512 : Shape := ⟨1, ![512]⟩
abbrev S1x1x256 : Shape := ⟨3, ![1, 1, 256]⟩
abbrev S_ : Shape := ⟨0, ![]⟩
abbrev S8x256 : Shape := ⟨2, ![8, 256]⟩
abbrev S8x768 : Shape := ⟨2, ![8, 768]⟩
abbrev S1x768 : Shape := ⟨2, ![1, 768]⟩
abbrev S8x1x256 : Shape := ⟨3, ![8, 1, 256]⟩
abbrev S1x10000x256 : Shape := ⟨3, ![1, 10000, 256]⟩
abbrev S8x10000x256 : Shape := ⟨3, ![8, 10000, 256]⟩
abbrev S8x10000 : Shape := ⟨2, ![8, 10000]⟩
abbrev S10000x8 : Shape := ⟨2, ![10000, 8]⟩
abbrev S10000x1 : Shape := ⟨2, ![10000, 1]⟩
abbrev S8 : Shape := ⟨1, ![8]⟩
abbrev S1x8 : Shape := ⟨2, ![1, 8]⟩
abbrev S10000x8x1 : Shape := ⟨3, ![10000, 8, 1]⟩
abbrev S10000x1x8 : Shape := ⟨3, ![10000, 1, 8]⟩
abbrev S10000x8x8 : Shape := ⟨3, ![10000, 8, 8]⟩
abbrev S8x8 : Shape := ⟨2, ![8, 8]⟩
abbrev S8x10000x1 : Shape := ⟨3, ![8, 10000, 1]⟩
abbrev S10000x8x256 : Shape := ⟨3, ![10000, 8, 256]⟩
abbrev S8x8x256 : Shape := ⟨3, ![8, 8, 256]⟩
abbrev S8x1 : Shape := ⟨2, ![8, 1]⟩
abbrev S8x2 : Shape := ⟨2, ![8, 2]⟩
abbrev S1x256 : Shape := ⟨2, ![1, 256]⟩
abbrev S8x512 : Shape := ⟨2, ![8, 512]⟩
abbrev S1x512 : Shape := ⟨2, ![1, 512]⟩

abbrev nBuf : Space → Nat
  | .hbm => 174
  | .vmem => 0
  | .smem => 0
  | _ => 0

abbrev hbmTy0_0 (i : Nat) : BufTy := match i % 128 with
  | 0 => ⟨S1x8x512, .f32⟩
  | 1 => ⟨S1x8x256, .f32⟩
  | 2 => ⟨S10000x256, .f32⟩
  | 3 => ⟨S10000, .i32⟩
  | 4 => ⟨S256x512, .f32⟩
  | 5 => ⟨S256, .f32⟩
  | 6 => ⟨S768x256, .f32⟩
  | 7 => ⟨S768x256, .f32⟩
  | 8 => ⟨S768, .f32⟩
  | 9 => ⟨S768, .f32⟩
  | 10 => ⟨S256x256, .f32⟩
  | 11 => ⟨S256, .f32⟩
  | 12 => ⟨S256x768, .f32⟩
  | 13 => ⟨S256, .f32⟩
  | 14 => ⟨S512x256, .f32⟩
  | 15 => ⟨S512, .f32⟩
  | 16 => ⟨S1x8x256, .f32⟩
  | 17 => ⟨S1x1x256, .f32⟩
  | 18 => ⟨S1x8x256, .f32⟩
  | 19 => ⟨S1x8x256, .f32⟩
  | 20 => ⟨S_, .f32⟩
  | 21 => ⟨S1x8x256, .f32⟩
  | 22 => ⟨S1x8x256, .f32⟩
  | 23 => ⟨S8x256, .f32⟩
  | 24 => ⟨S8x256, .f32⟩
  | 25 => ⟨S256x768, .f32⟩
  | 26 => ⟨S8x768, .f32⟩
  | 27 => ⟨S1x768, .f32⟩
  | 28 => ⟨S8x768, .f32⟩
  | 29 => ⟨S8x768, .f32⟩
  | 30 => ⟨S256x768, .f32⟩
  | 31 => ⟨S8x768, .f32⟩
  | 32 => ⟨S1x768, .f32⟩
  | 33 => ⟨S8x768, .f32⟩
  | 34 => ⟨S8x768, .f32⟩
  | 35 => ⟨S8x256, .f32⟩
  | 36 => ⟨S8x256, .f32⟩
  | 37 => ⟨S8x256, .f32⟩
  | 38 => ⟨S8x256, .f32⟩
  | 39 => ⟨S8x256, .f32⟩
  | 40 => ⟨S8x256, .f32⟩
  | 41 => ⟨S8x256, .f32⟩
  | 42 => ⟨S8x256, .f32⟩
  | 43 => ⟨S8x256, .f32⟩
  | 44 => ⟨S_, .f32⟩
  | 45 => ⟨S8x256, .f32⟩
  | 46 => ⟨S8x256, .f32⟩
  | 47 => ⟨S_, .f32⟩
  | 48 => ⟨S8x256, .f32⟩
  | 49 => ⟨S8x256, .f32⟩
  | 50 => ⟨S8x256, .f32⟩
  | 51 => ⟨S8x256, .f32⟩
  | 52 => ⟨S8x256, .f32⟩
  | 53 => ⟨S_, .f32⟩
  | 54 => ⟨S8x256, .f32⟩
  | 55 => ⟨S8x256, .f32⟩
  | 56 => ⟨S_, .f32⟩
  | 57 => ⟨S8x256, .f32⟩
  | 58 => ⟨S8x256, .f32⟩
  | 59 => ⟨S8x256, .f32⟩
  | 60 => ⟨S8x256, .f32⟩
  | 61 => ⟨S8x256, .f32⟩
  | 62 => ⟨S_, .f32⟩
  | 63 => ⟨S8x256, .f32⟩
  | 64 => ⟨S8x256, .f32⟩
  | 65 => ⟨S8x256, .f32⟩
  | 66 => ⟨S8x256, .f32⟩
  | 67 => ⟨S8x256, .f32⟩
  | 68 => ⟨S1x8x256, .f32⟩
  | 69 => ⟨S1x8x256, .f32⟩
  | 70 => ⟨S_, .f32⟩
  | 71 => ⟨S1x8x256, .f32⟩
  | 72 => ⟨S1x8x256, .f32⟩
  | 73 => ⟨S256x256, .f32⟩
  | 74 => ⟨S1x8x256, .f32⟩
  | 75 => ⟨S1x1x256, .f32⟩
  | 76 => ⟨S1x8x256, .f32⟩
  | 77 => ⟨S1x8x256, .f32⟩
  | 78 => ⟨S8x1x256, .f32⟩
  | 79 => ⟨S1x10000x256, .f32⟩
  | 80 => ⟨S8x10000x256, .f32⟩
  | 81 => ⟨S8x10000x256, .f32⟩
  | 82 => ⟨S8x10000x256, .f32⟩
  | 83 => ⟨S_, .f32⟩
  | 84 => ⟨S8x10000, .f32⟩
  | 85 => ⟨S10000x8, .f32⟩
  | 86 => ⟨S10000x1, .i32⟩
  | 87 => ⟨S8, .i32⟩
  | 88 => ⟨S1x8, .i32⟩
  | 89 => ⟨S10000x8, .i32⟩
  | 90 => ⟨S10000x8, .i32⟩
  | 91 => ⟨S10000x8, .i1⟩
  | 92 => ⟨S10000x8x1, .i1⟩
  | 93 => ⟨S10000x1x8, .f32⟩
  | 94 => ⟨S_, .f32⟩
  | 95 => ⟨S_, .f32⟩
  | 96 => ⟨S10000x8x8, .i1⟩
  | 97 => ⟨S10000x8x8, .f32⟩
  | 98 => ⟨S10000x8x8, .f32⟩
  | 99 => ⟨S10000x8x8, .f32⟩
  | 100 => ⟨S_, .f32⟩
  | 101 => ⟨S8x8, .f32⟩
  | 102 => ⟨S_, .i32⟩
  | 103 => ⟨S10000, .i32⟩
  | 104 => ⟨S10000, .i1⟩
  | 105 => ⟨S_, .i32⟩
  | 106 => ⟨S10000, .i32⟩
  | 107 => ⟨S10000, .i32⟩
  | 108 => ⟨S10000, .i32⟩
  | 109 => ⟨S10000x1, .i32⟩
  | 110 => ⟨S10000x8, .f32⟩
  | 111 => ⟨S10000x8, .f32⟩
  | 112 => ⟨S10000x8, .f32⟩
  | 113 => ⟨S_, .f32⟩
  | 114 => ⟨S8x8, .f32⟩
  | 115 => ⟨S10000x1, .i32⟩
  | 116 => ⟨S8x8, .f32⟩
  | 117 => ⟨S_, .i32⟩
  | 118 => ⟨S10000, .i32⟩
  | 119 => ⟨S10000, .i1⟩
  | 120 => ⟨S_, .i32⟩
  | 121 => ⟨S10000, .i32⟩
  | 122 => ⟨S10000, .i32⟩
  | 123 => ⟨S10000, .i32⟩
  | 124 => ⟨S10000x1, .i32⟩
  | 125 => ⟨S10000x8, .f32⟩
  | 126 => ⟨S10000x8, .f32⟩
  | 127 => ⟨S8x10000, .f32⟩
  | _ => ⟨S1x8x512, .f32⟩

abbrev hbmTy0_1 (i : Nat) : BufTy := match i % 128 with
  | 0 => ⟨S8x10000x1, .f32⟩
  | 1 => ⟨S1x10000x256, .f32⟩
  | 2 => ⟨S8x10000x256, .f32⟩
  | 3 => ⟨S8x10000x256, .f32⟩
  | 4 => ⟨S8x10000x256, .f32⟩
  | 5 => ⟨S10000x8x256, .f32⟩
  | 6 => ⟨S_, .f32⟩
  | 7 => ⟨S8x8x256, .f32⟩
  | 8 => ⟨S10000x1, .i32⟩
  | 9 => ⟨S8x8x256, .f32⟩
  | 10 => ⟨S8, .i32⟩
  | 11 => ⟨S8, .i32⟩
  | 12 => ⟨S_, .i32⟩
  | 13 => ⟨S8, .i32⟩
  | 14 => ⟨S8, .i1⟩
  | 15 => ⟨S_, .i32⟩
  | 16 => ⟨S8, .i32⟩
  | 17 => ⟨S8, .i32⟩
  | 18 => ⟨S8, .i32⟩
  | 19 => ⟨S_, .i32⟩
  | 20 => ⟨S8, .i32⟩
  | 21 => ⟨S8, .i1⟩
  | 22 => ⟨S_, .i32⟩
  | 23 => ⟨S8, .i32⟩
  | 24 => ⟨S8, .i32⟩
  | 25 => ⟨S8, .i32⟩
  | 26 => ⟨S8x1, .i32⟩
  | 27 => ⟨S8x1, .i32⟩
  | 28 => ⟨S8x2, .i32⟩
  | 29 => ⟨S8x256, .f32⟩
  | 30 => ⟨S8x256, .f32⟩
  | 31 => ⟨S8x256, .f32⟩
  | 32 => ⟨S8x768, .f32⟩
  | 33 => ⟨S768x256, .f32⟩
  | 34 => ⟨S8x256, .f32⟩
  | 35 => ⟨S1x256, .f32⟩
  | 36 => ⟨S8x256, .f32⟩
  | 37 => ⟨S8x256, .f32⟩
  | 38 => ⟨S_, .f32⟩
  | 39 => ⟨S8x256, .f32⟩
  | 40 => ⟨S8x256, .f32⟩
  | 41 => ⟨S256x512, .f32⟩
  | 42 => ⟨S8x512, .f32⟩
  | 43 => ⟨S1x512, .f32⟩
  | 44 => ⟨S8x512, .f32⟩
  | 45 => ⟨S8x512, .f32⟩
  | _ => ⟨S1x8x512, .f32⟩

abbrev hbmTy (i : Nat) : BufTy := match i / 128 with
  | 0 => hbmTy0_0 i
  | 1 => hbmTy0_1 i
  | _ => ⟨S1x8x512, .f32⟩

abbrev bufTy : (tb : Table) → Fin (tcTables nBuf tb) → BufTy
  | .hbm, ⟨i, _⟩ => hbmTy i
  | _, _ => ⟨S1x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_3 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_4 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_5 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_v68 : Ref sig .tc := ⟨.hbm, 99, rfl⟩
abbrev main_cst_6 : Ref sig .tc := ⟨.hbm, 100, rfl⟩
abbrev main_v69 : Ref sig .tc := ⟨.hbm, 101, rfl⟩
abbrev main_c : Ref sig .tc := ⟨.hbm, 102, rfl⟩
abbrev main_v70 : Ref sig .tc := ⟨.hbm, 103, rfl⟩
abbrev main_v71 : Ref sig .tc := ⟨.hbm, 104, rfl⟩
abbrev main_c_7 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_8 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_9 : Ref sig .tc := ⟨.hbm, 117, rfl⟩
abbrev main_v82 : Ref sig .tc := ⟨.hbm, 118, rfl⟩
abbrev main_v83 : Ref sig .tc := ⟨.hbm, 119, rfl⟩
abbrev main_c_10 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_11 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_12 : Ref sig .tc := ⟨.hbm, 140, rfl⟩
abbrev main_v102 : Ref sig .tc := ⟨.hbm, 141, rfl⟩
abbrev main_v103 : Ref sig .tc := ⟨.hbm, 142, rfl⟩
abbrev main_c_13 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_14 : Ref sig .tc := ⟨.hbm, 147, rfl⟩
abbrev main_v107 : Ref sig .tc := ⟨.hbm, 148, rfl⟩
abbrev main_v108 : Ref sig .tc := ⟨.hbm, 149, rfl⟩
abbrev main_c_15 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_call3_cst : Ref sig .tc := ⟨.hbm, 166, rfl⟩
abbrev main_call3_v0 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩

abbrev nD : Nat := 1
abbrev τ : Topo := Topo.v7x

variable {F : FTy → Type} [FloatOps F]
-- ==== Proof.Reals.lean ====
module
public import Idealize.ShloMosaic.Lib.Pointwise

/-!
# Real numbers among the extended reals

Where the operations' values are real: sums, maxima, the logistic function, the hyperbolic tangent, exponentials and
quotients.
-/

@[expose] public section

noncomputable section

namespace SegmentAttention

open Idealize.ShloMosaic

/-- The sum of real numbers, read among the extended reals, is the sum there. -/
theorem coe_sum {α : Type} (s : Finset α) (f : α → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A finite sum of real numbers is real. -/
theorem sum_real {α : Type} (s : Finset α) (f : α → EReal) (hf : ∀ i, ∃ r : ℝ, f i = (r : EReal)) :
    ∃ r : ℝ, ∑ i ∈ s, f i = (r : EReal) := by
  choose g hg using hf
  refine ⟨∑ i ∈ s, g i, ?_⟩
  rw [coe_sum]
  exact Finset.sum_congr rfl fun i _ => hg i

/-- An extended real that is neither infinity is real. -/
theorem real_of_ne {x : EReal} (ht : x ≠ ⊤) (hb : x ≠ ⊥) : ∃ r : ℝ, x = (r : EReal) :=
  ⟨x.toReal, (EReal.coe_toReal ht hb).symm⟩

/-- The larger of two real numbers is real. -/
theorem max_real (x y : ℝ) : max (x : EReal) (y : EReal) = ((max x y : ℝ) : EReal) :=
  (EReal.coe_strictMono.monotone.map_max).symm

/-- The largest of values below the upper infinity, one of them real, is real. -/
theorem fold_max_real {α : Type} (s : Finset α) (f : α → EReal) (ht : ∀ i, f i ≠ ⊤)
    (hr : ∃ i ∈ s, ∃ r : ℝ, f i = (r : EReal)) : ∃ r : ℝ, s.fold max ⊥ f = (r : EReal) := by
  refine real_of_ne (ne_of_lt ?_) (ne_of_gt ?_)
  · exact (Finset.fold_max_lt _).2 ⟨bot_lt_top, fun i _ => lt_top_iff_ne_top.2 (ht i)⟩
  · obtain ⟨i, hi, r, e⟩ := hr
    exact (Finset.lt_fold_max _).2 (Or.inr ⟨i, hi, by rw [e]; exact EReal.bot_lt_coe r⟩)

/-- The pattern of the lower infinity. -/
theorem negInf : Ideal.ofBits .f32 0xFF800000#32 = ⊥ := by simp [Ideal.ofBits, Ideal.ieee]

/-- The pattern of a large negative number denotes a real number. -/
theorem lowest_real : ∃ r : ℝ, Ideal.ofBits .f32 0xF149F2CA#32 = (r : EReal) := by
  simp [Ideal.ofBits, Ideal.ieee, -EReal.coe_mul]
  exact ⟨_, (EReal.coe_neg _).symm⟩

/-- The logistic function's values are real, at the infinities too. -/
theorem logistic_real (x : EReal) : ∃ r : ℝ, Ideal.logistic x = (r : EReal) := by
  induction x with
  | bot => exact ⟨0, by simp⟩
  | top => exact ⟨1, by simp⟩
  | coe r => exact ⟨_, Ideal.logistic_coe r⟩

/-- The hyperbolic tangent's values are real, at the infinities too. -/
theorem tanh_real (x : EReal) : ∃ r : ℝ, Ideal.tanh x = (r : EReal) := by
  induction x with
  | bot => exact ⟨-1, by simp⟩
  | top => exact ⟨1, by simp⟩
  | coe r => exact ⟨_, Ideal.tanh_coe r⟩

/-- The exponential of a difference of real numbers. -/
theorem exp_sub (x y : ℝ) : Ideal.exp ((x : EReal) - (y : EReal)) = ((Real.exp (x - y) : ℝ) : EReal) := by
  rw [← EReal.coe_sub, Ideal.exp_coe]

/-- The quotient of real numbers. -/
theorem div_real (x : ℝ) {y : ℝ} (hy : y ≠ 0) : Ideal.div (x : EReal) (y : EReal) = ((x / y : ℝ) : EReal) := by
  rw [Ideal.div_coe hy, ← EReal.coe_mul]
  congr 1
  ring

end SegmentAttention

end
-- ==== Proof.Spec.lean ====
module
public import proofs.«01_k».proof.Proof.Reals

/-!
# One GRU step with segment attention, entry by entry

The formulas both programs compute, on the problem's sixteen arrays: the encoded input, the GRU's new hidden state, the
queries, the scores of the nodes, the softmax of the scores within each node's segment, the context of each segment and
the output layer.
-/

@[expose] public section

noncomputable section

namespace SegmentAttention

open Idealize.ShloMosaic Idealize.ShloMosaic.TcCoe

/-- The problem's sixteen arrays. -/
structure Inputs where
  x : FVec Ideal ⟨3, ![1, 8, 512]⟩ .f32
  h : FVec Ideal ⟨3, ![1, 8, 256]⟩ .f32
  nodes : FVec Ideal ⟨2, ![10000, 256]⟩ .f32
  seg : IVec ⟨1, ![10000]⟩ 32
  encW : FVec Ideal ⟨2, ![256, 512]⟩ .f32
  encB : FVec Ideal ⟨1, ![256]⟩ .f32
  inW : FVec Ideal ⟨2, ![768, 256]⟩ .f32
  hidW : FVec Ideal ⟨2, ![768, 256]⟩ .f32
  inB : FVec Ideal ⟨1, ![768]⟩ .f32
  hidB : FVec Ideal ⟨1, ![768]⟩ .f32
  projW : FVec Ideal ⟨2, ![256, 256]⟩ .f32
  projB : FVec Ideal ⟨1, ![256]⟩ .f32
  compW : FVec Ideal ⟨2, ![256, 768]⟩ .f32
  compB : FVec Ideal ⟨1, ![256]⟩ .f32
  outW : FVec Ideal ⟨2, ![512, 256]⟩ .f32
  outB : FVec Ideal ⟨1, ![512]⟩ .f32

namespace Inputs

variable (I : Inputs)

/-- The encoded input. -/
def enc (b : Fin 8) (k : Fin 256) : EReal :=
  max (∑ i, I.x (ix3 (0 : Fin 1) b i) * I.encW (ix2 k i) + I.encB (ix1 k)) 0

/-- The gates' linear part on the encoded input. -/
def gx (b : Fin 8) (j : Fin 768) : EReal := ∑ i, I.enc b i * I.inW (ix2 j i) + I.inB (ix1 j)

/-- The gates' linear part on the last hidden state. -/
def gh (b : Fin 8) (j : Fin 768) : EReal := ∑ i, I.h (ix3 (0 : Fin 1) b i) * I.hidW (ix2 j i) + I.hidB (ix1 j)

/-- Column k of the reset gate's part. -/
def resetCol (k : Fin 256) : Fin 768 := ⟨k.val, by have := k.isLt; omega⟩

/-- Column k of the update gate's part. -/
def updCol (k : Fin 256) : Fin 768 := ⟨256 + k.val, by have := k.isLt; omega⟩

/-- Column k of the candidate's part. -/
def newCol (k : Fin 256) : Fin 768 := ⟨512 + k.val, by have := k.isLt; omega⟩

/-- The update gate. -/
def upd (b : Fin 8) (k : Fin 256) : EReal := Ideal.logistic (I.gx b (updCol k) + I.gh b (updCol k))

/-- The reset gate. -/
def reset (b : Fin 8) (k : Fin 256) : EReal := Ideal.logistic (I.gx b (resetCol k) + I.gh b (resetCol k))

/-- The GRU's new hidden state. -/
def hid (b : Fin 8) (k : Fin 256) : EReal :=
  (1 - I.upd b k) * Ideal.tanh (I.gx b (newCol k) + I.reset b k * I.gh b (newCol k)) + I.upd b k * I.h (ix3 (0 : Fin 1) b k)

/-- The queries. -/
def query (b : Fin 8) (k : Fin 256) : EReal := ∑ i, max (I.hid b i) 0 * I.projW (ix2 k i) + I.projB (ix1 k)

/-- The score of node n for query b. -/
def score (b : Fin 8) (n : Fin 10000) : EReal := ∑ i, I.query b i * I.nodes (ix2 n i)

/-- The exponential of a score, a real number. -/
def expScore (b : Fin 8) (n : Fin 10000) : ℝ := Real.exp (I.score b n).toReal

/-- The sum of query b's exponentials over the nodes of one segment. -/
def total (b : Fin 8) (s : BitVec 32) : ℝ := ∑ n, if I.seg (ix1 n) = s then I.expScore b n else 0

/-- The attention of query b on node n: the softmax of the scores within the node's segment. -/
def att (b : Fin 8) (n : Fin 10000) : ℝ := I.expScore b n / I.total b (I.seg (ix1 n))

/-- The context of query b: the nodes of segment b weighted by its attention. -/
def ctx (b : Fin 8) (k : Fin 256) : ℝ :=
  ∑ n, if I.seg (ix1 n) = BitVec.ofNat 32 b.val then I.att b n * (I.nodes (ix2 n k)).toReal else 0

/-- Query, context and encoded input side by side. -/
def joined (b : Fin 8) (j : Fin 768) : EReal :=
  if h : j.val < 256 then I.query b ⟨j.val, h⟩
  else if h : j.val - 256 < 256 then ((I.ctx b ⟨j.val - 256, h⟩ : ℝ) : EReal)
  else I.enc b ⟨j.val - 256 - 256, by have := j.isLt; omega⟩

/-- The joined rows' linear layer, cut off below at zero. -/
def comp (b : Fin 8) (k : Fin 256) : EReal := max (∑ i, I.joined b i * I.compW (ix2 k i) + I.compB (ix1 k)) 0

/-- The output. -/
def out (b : Fin 8) (k : Fin 512) : EReal := ∑ i, I.comp b i * I.outW (ix2 k i) + I.outB (ix1 k)

/-- What the softmax needs: the last hidden state, the nodes and the projection hold real numbers, every segment number
    lies in 0 to 7, and every segment has a node. -/
structure Good : Prop where
  h : ∀ b k, ∃ r : ℝ, I.h (ix3 (0 : Fin 1) b k) = (r : EReal)
  nodes : ∀ n k, ∃ r : ℝ, I.nodes (ix2 n k) = (r : EReal)
  projW : ∀ i k, ∃ r : ℝ, I.projW (ix2 i k) = (r : EReal)
  projB : ∀ k, ∃ r : ℝ, I.projB (ix1 k) = (r : EReal)
  range : ∀ n, ∃ s : Fin 8, I.seg (ix1 n) = BitVec.ofNat 32 s.val
  populated : ∀ s : Fin 8, ∃ n, I.seg (ix1 n) = BitVec.ofNat 32 s.val

end Inputs

variable {I : Inputs}

/-- The total over a populated segment is positive. -/
theorem total_pos (b : Fin 8) (v : BitVec 32) (n : Fin 10000) (hn : I.seg (ix1 n) = v) : 0 < I.total b v := by
  refine Finset.sum_pos' (fun i _ => ?_) ⟨n, Finset.mem_univ _, ?_⟩
  · split
    · exact (Real.exp_pos _).le
    · exact le_rfl
  · rw [if_pos hn]
    exact Real.exp_pos _

/-- The new hidden state is real. -/
theorem hid_real (g : I.Good) (b : Fin 8) (k : Fin 256) : ∃ r : ℝ, I.hid b k = (r : EReal) := by
  obtain ⟨u, hu⟩ := logistic_real (I.gx b (Inputs.updCol k) + I.gh b (Inputs.updCol k))
  obtain ⟨t, ht⟩ := tanh_real (I.gx b (Inputs.newCol k) + I.reset b k * I.gh b (Inputs.newCol k))
  obtain ⟨h, hh⟩ := g.h b k
  refine ⟨(1 - u) * t + u * h, ?_⟩
  rw [Inputs.hid, Inputs.upd, hu, ht, hh]
  norm_cast

/-- The queries are real. -/
theorem query_real (g : I.Good) (b : Fin 8) (k : Fin 256) : ∃ r : ℝ, I.query b k = (r : EReal) := by
  obtain ⟨s, hs⟩ := sum_real Finset.univ (fun i => max (I.hid b i) 0 * I.projW (ix2 k i)) fun i => by
    obtain ⟨r, hr⟩ := hid_real g b i
    obtain ⟨w, hw⟩ := g.projW k i
    refine ⟨max r 0 * w, ?_⟩
    rw [hr, hw, EReal.coe_mul, EReal.coe_strictMono.monotone.map_max, EReal.coe_zero]
  obtain ⟨p, hp⟩ := g.projB k
  exact ⟨s + p, by rw [Inputs.query, hs, hp, EReal.coe_add]⟩

/-- The scores are real. -/
theorem score_real (g : I.Good) (b : Fin 8) (n : Fin 10000) : ∃ r : ℝ, I.score b n = (r : EReal) :=
  sum_real Finset.univ _ fun i => by
    obtain ⟨r, hr⟩ := query_real g b i
    obtain ⟨w, hw⟩ := g.nodes n i
    exact ⟨r * w, by rw [hr, hw, EReal.coe_mul]⟩

/-- A score is the number it stands for. -/
theorem score_eq (g : I.Good) (b : Fin 8) (n : Fin 10000) : I.score b n = (((I.score b n).toReal : ℝ) : EReal) := by
  obtain ⟨r, hr⟩ := score_real g b n
  rw [hr, EReal.toReal_coe]

/-- A node's entry is the number it stands for. -/
theorem node_eq (g : I.Good) (n : Fin 10000) (k : Fin 256) :
    I.nodes (ix2 n k) = (((I.nodes (ix2 n k)).toReal : ℝ) : EReal) := by
  obtain ⟨r, hr⟩ := g.nodes n k
  rw [hr, EReal.toReal_coe]

end SegmentAttention

end
-- ==== Proof.KernelRun.lean ====
module
public import proofs.«01_k».proof.Proof.Gen.KernelIdeal.Value
public import Idealize.ShloMosaic.Lib.Pipeline.ValueKit
public import Idealize.ShloMosaic.Lib.Pipeline.ReadBack
public import proofs.«01_k».proof.Proof.Spec

/-!
# What the kernel leaves in its three outputs

The kernel's one step, opened: the nodes come in two chunks, 5120 rows and 4880 rows. Each intermediate block gets a
definition of its own here, on the problem's arrays, and the three output arrays are stated as those blocks.
-/

@[expose] public section

set_option maxRecDepth 16384

noncomputable section

namespace Cert.KernelIdeal.Run

open Cert.KernelIdeal Cert.KernelIdeal.Gen Cert.KernelIdeal.Value
open Idealize.ShloMosaic Idealize.ShloMosaic.TcCoe Idealize.SL.Sem
open Idealize.ShloMosaic.Pipeline (Dat)
open SegmentAttention

section Blocks

variable (I : Inputs)

/-- The first 5120 nodes. -/
def head (nodes : FVec Ideal S10000x256 .f32) : FVec Ideal S5120x256 .f32 :=
  fun j => nodes (ix2 (⟨(j 0).val, lt_of_lt_of_le (j 0).isLt (by decide)⟩ : Fin 10000) (⟨(j 1).val, (j 1).isLt⟩ : Fin 256))

/-- The last 4880 nodes. -/
def tail (nodes : FVec Ideal S10000x256 .f32) : FVec Ideal S4880x256 .f32 :=
  fun j => nodes (ix2 (⟨5120 + (j 0).val, by have h : (j 0).val < 4880 := (j 0).isLt; omega⟩ : Fin 10000)
    (⟨(j 1).val, (j 1).isLt⟩ : Fin 256))

/-- The new hidden state. -/
def hidRows : FVec Ideal S1x8x256 .f32 :=
  k0_pay6 (k0_pay2 I.h) (k0_pay3 I.x I.encW I.encB I.inW I.inB) (k0_pay4 I.h I.hidW) I.hidB

/-- The queries. -/
def queryRows : FVec Ideal S8x256 .bf16 :=
  k0_pay8 (k0_pay2 I.h) (k0_pay3 I.x I.encW I.encB I.inW I.inB) (k0_pay4 I.h I.hidW) I.hidB I.projW I.projB

/-- The queries before their cast. -/
def queryWide : FVec Ideal S8x256 .f32 :=
  k0_pay7 (k0_pay2 I.h) (k0_pay3 I.x I.encW I.encB I.inW I.inB) (k0_pay4 I.h I.hidW) I.hidB I.projW I.projB

/-- The segment numbers as a row. -/
def segRow : IVec S1x10000 32 := k0_pay9 (F := Ideal) I.seg

/-- The running maximum after the first chunk. -/
def max1 : FVec Ideal S8x1 .f32 := k0_pay16 (queryRows I) k0_pay10 (head I.nodes)

/-- The second chunk's scores. -/
def scores2 : FVec Ideal S8x4880 .f32 := k0_pay23 (queryRows I) (tail I.nodes)

/-- The running maximum after the second chunk. -/
def max2 : FVec Ideal S8x1 .f32 := k0_pay25 (max1 I) (scores2 I)

/-- The segments' sums after the first chunk. -/
def sum1 : FVec Ideal S8x8 .f32 := k0_pay20 (queryRows I) (segRow I) k0_pay10 k0_pay11 (head I.nodes)

/-- The segments' sums after the second chunk. -/
def sum2 : FVec Ideal S8x8 .f32 := k0_pay29 (segRow I) (max1 I) (sum1 I) (scores2 I)

/-- The contexts' numerators after the first chunk. -/
def acc1 : FVec Ideal S8x256 .f32 := k0_pay21 (queryRows I) (segRow I) k0_pay10 k0_pay12 (head I.nodes)

/-- The composed rows. -/
def compRows : FVec Ideal S8x256 .f32 :=
  k0_pay30 (k0_pay1 I.x I.encW I.encB) (queryWide I) (segRow I) (max1 I) (sum1 I) (acc1 I) (k0_pay22 (tail I.nodes))
    (scores2 I) I.compW I.compB

/-- The output. -/
def outRows : FVec Ideal S8x512 .f32 := k0_pay31 (compRows I) I.outW I.outB

/-- All scores, side by side. -/
def allScores (q : FVec Ideal S8x256 .bf16) (nodes : FVec Ideal S10000x256 .f32) : FVec Ideal S8x10000 .f32 :=
  fun y => ∑ i : Fin 256, q (ix2 (⟨(y 0).val, (y 0).isLt⟩ : Fin 8) i) * nodes (ix2 (⟨(y 1).val, (y 1).isLt⟩ : Fin 10000) i)

/-- The attention. -/
def attRows : FVec Ideal S8x10000 .f32 :=
  k0_pay36 (segRow I) (k0_pay32 (max2 I) (allScores (queryRows I) I.nodes)) (k0_pay33 (sum2 I))
    (k0_pay34 (segRow I) (sum2 I)) k0_pay35

/-- The first chunk's scores at an entry. -/
theorem scores1_apply (q : FVec Ideal S8x256 .bf16) (x : FVec Ideal S5120x256 .f32) (b : Fin 8) (n : Fin 5120) :
    k0_pay15 q x (ix2 b n) = ∑ i : Fin 256, q (ix2 b i) * x (ix2 n i) := by
  pointwise [k0_pay15, k0_pay14, k0_pay13]

/-- The second chunk's scores at an entry. -/
theorem scores2_apply (q : FVec Ideal S8x256 .bf16) (x : FVec Ideal S4880x256 .f32) (b : Fin 8) (n : Fin 4880) :
    k0_pay24 (k0_pay23 q x) (ix2 b n) = ∑ i : Fin 256, q (ix2 b i) * x (ix2 n i) := by
  pointwise [k0_pay24, k0_pay23, k0_pay22]

/-- The second store holds the scores its rectangle names. -/
theorem store2 (q : FVec Ideal S8x256 .bf16) (nodes : FVec Ideal S10000x256 .f32) (b : Fin 8) (n : Fin 4880) :
    k0_pay24 (k0_pay23 q (tail nodes)) (ix2 b n) =
      allScores q nodes ((Rect.unit ![0, 5120] ![8, 4880] inb_S8x10000_S8x4880_0_5120 : Rect S8x10000).emb (ix2 b n)) := by
  rw [scores2_apply]
  refine Finset.sum_congr rfl fun i _ => congrArg₂ (· * ·) (congrArg (fun r => q (ix2 r i)) (Fin.ext ?_))
    (congrArg (fun r => nodes (ix2 r i)) (Fin.ext ?_))
  · show b.val = 0 + 1 * b.val
    omega
  · show 5120 + n.val = 5120 + 1 * n.val
    omega

/-- The first store holds the scores its rectangle names. -/
theorem store1 (q : FVec Ideal S8x256 .bf16) (nodes : FVec Ideal S10000x256 .f32) (b : Fin 8) (n : Fin 5120) :
    k0_pay15 q (head nodes) (ix2 b n) =
      allScores q nodes ((Rect.unit ![0, 0] ![8, 5120] inb_S8x10000_S8x5120_0_0 : Rect S8x10000).emb (ix2 b n)) := by
  rw [scores1_apply]
  refine Finset.sum_congr rfl fun i _ => congrArg₂ (· * ·) (congrArg (fun r => q (ix2 r i)) (Fin.ext ?_))
    (congrArg (fun r => nodes (ix2 r i)) (Fin.ext ?_))
  · show b.val = 0 + 1 * b.val
    omega
  · show n.val = 0 + 1 * n.val
    omega

/-- An index of a matrix is its two coordinates. -/
theorem idx_eq {p r : Nat} (x : (⟨2, ![p, r]⟩ : Shape).Idx) : ∃ (b : Fin p) (n : Fin r), x = ix2 b n :=
  ⟨x 0, x 1, by
    funext a
    match a with
    | ⟨0, _⟩ => rfl
    | ⟨1, _⟩ => rfl⟩

/-- A column below 5120 lies in the first store's rectangle. -/
theorem cover1 (y : S8x10000.Idx) (h : (y 1).val < 5120) :
    y ∈ (Rect.unit ![0, 0] ![8, 5120] inb_S8x10000_S8x5120_0_0 : Rect S8x10000).set := by
  have hy0 : (y 0).val < 8 := (y 0).isLt
  refine Rect.mem_set_unit.2 fun a => ?_
  match a with
  | ⟨0, _⟩ => show 0 ≤ (y 0).val ∧ (y 0).val < 0 + 8; omega
  | ⟨1, _⟩ => show 0 ≤ (y 1).val ∧ (y 1).val < 0 + 5120; omega

/-- Any other column lies in the second store's rectangle. -/
theorem cover2 (y : S8x10000.Idx) (h : ¬(y 1).val < 5120) :
    y ∈ (Rect.unit ![0, 5120] ![8, 4880] inb_S8x10000_S8x4880_0_5120 : Rect S8x10000).set := by
  have hy0 : (y 0).val < 8 := (y 0).isLt
  have hy1 : (y 1).val < 10000 := (y 1).isLt
  refine Rect.mem_set_unit.2 fun a => ?_
  match a with
  | ⟨0, _⟩ => show 0 ≤ (y 0).val ∧ (y 0).val < 0 + 8; omega
  | ⟨1, _⟩ => show 5120 ≤ (y 1).val ∧ (y 1).val < 5120 + 4880; omega

/-- The scores read back whole from the two stores are all scores. -/
theorem scores_read (q : FVec Ideal S8x256 .bf16) (nodes : FVec Ideal S10000x256 .f32) :
    (View.whole cc0_scratch1).readCov (Val := Elt Ideal)
        [⟨Rect.unit ![0, 5120] ![8, 4880] inb_S8x10000_S8x4880_0_5120, k0_pay24 (k0_pay23 q (tail nodes))⟩,
          ⟨Rect.unit ![0, 0] ![8, 5120] inb_S8x10000_S8x5120_0_0, k0_pay15 q (head nodes)⟩]
        (Rect.unit ![0, 0] ![8, 10000] inb_S8x10000_S8x10000_0_0).toLoadRect = allScores q nodes := by
  rw [View.readCov_eq_canon']
  funext y
  have e : (Rect.unit ![0, 0] ![8, 10000] inb_S8x10000_S8x10000_0_0).toLoadRect.idx y = y := by
    funext a
    match a with
    | ⟨0, _⟩ => exact Fin.ext (by show 0 + 1 * (y 0).val = (y 0).val; omega)
    | ⟨1, _⟩ => exact Fin.ext (by show 0 + 1 * (y 1).val = (y 1).val; omega)
  refine (congrArg _ e).trans ?_
  refine View.canon_apply_of_pieces (Val := Elt Ideal) (S := S8x10000) (e := .f32) (allScores q nodes) _ ?_ y ?_
  · intro p hp x
    rcases List.mem_cons.mp hp with rfl | hp
    · obtain ⟨b, n, rfl⟩ := idx_eq (p := 8) (r := 4880) x
      exact store2 q nodes b n
    rcases List.mem_cons.mp hp with rfl | hp
    · obtain ⟨b, n, rfl⟩ := idx_eq (p := 8) (r := 5120) x
      exact store1 q nodes b n
    nomatch hp
  · by_cases h : (y 1).val < 5120
    · refine ⟨⟨Rect.unit ![0, 0] ![8, 5120] inb_S8x10000_S8x5120_0_0, k0_pay15 q (head nodes)⟩,
        List.mem_cons_of_mem _ List.mem_cons_self, ?_⟩
      exact cover1 y h
    · refine ⟨⟨Rect.unit ![0, 5120] ![8, 4880] inb_S8x10000_S8x4880_0_5120, k0_pay24 (k0_pay23 q (tail nodes))⟩,
        List.mem_cons_self, ?_⟩
      exact cover2 y h

end Blocks

variable (m : (ℓ : Loc nD τ sig) → Buf (Elt Ideal) ℓ)

/-- The sixteen arrays as the kernel holds them. -/
def inputs (c : Dev nD) : Inputs where
  x := m ((c : Thread nD τ).loc main_arg0)
  h := m ((c : Thread nD τ).loc main_arg1)
  nodes := m ((c : Thread nD τ).loc main_arg2)
  seg := m ((c : Thread nD τ).loc main_arg3)
  encW := m ((c : Thread nD τ).loc main_arg4)
  encB := m ((c : Thread nD τ).loc main_arg5)
  inW := m ((c : Thread nD τ).loc main_arg6)
  hidW := m ((c : Thread nD τ).loc main_arg7)
  inB := m ((c : Thread nD τ).loc main_arg8)
  hidB := m ((c : Thread nD τ).loc main_arg9)
  projW := m ((c : Thread nD τ).loc main_arg10)
  projB := m ((c : Thread nD τ).loc main_arg11)
  compW := m ((c : Thread nD τ).loc main_arg12)
  compB := m ((c : Thread nD τ).loc main_arg13)
  outW := m ((c : Thread nD τ).loc main_arg14)
  outB := m ((c : Thread nD τ).loc main_arg15)

/-- Every input window names the whole of its array. -/
theorem windows : ∀ t : Fin cfg0.N, win0_0.index t = ![0, 0, 0] ∧ win0_1.index t = ![0, 0, 0] ∧ win0_2.index t = ![0] ∧
    win0_3.index t = ![0, 0] ∧ win0_4.index t = ![0] ∧ win0_5.index t = ![0, 0] ∧ win0_6.index t = ![0, 0] ∧
    win0_7.index t = ![0] ∧ win0_8.index t = ![0] ∧ win0_9.index t = ![0, 0] ∧ win0_10.index t = ![0] ∧
    win0_11.index t = ![0, 0] ∧ win0_12.index t = ![0] ∧ win0_13.index t = ![0, 0] ∧ win0_14.index t = ![0] :=
  (by decide +kernel : ∀ t : Fin grid0.N, _)

variable (c : Dev nD)

theorem iblk0 : iblk m c 0 t0_0 = (inputs m c).x := by blk_ext! [iblk, V, windows t0_0]
theorem iblk1 : iblk m c 1 t0_0 = (inputs m c).h := by blk_ext! [iblk, V, windows t0_0]
theorem iblk2 : iblk m c 2 t0_0 = (inputs m c).seg := by blk_ext! [iblk, V, windows t0_0]
theorem iblk3 : iblk m c 3 t0_0 = (inputs m c).encW := by blk_ext! [iblk, V, windows t0_0]
theorem iblk4 : iblk m c 4 t0_0 = (inputs m c).encB := by blk_ext! [iblk, V, windows t0_0]
theorem iblk5 : iblk m c 5 t0_0 = (inputs m c).inW := by blk_ext! [iblk, V, windows t0_0]
theorem iblk6 : iblk m c 6 t0_0 = (inputs m c).hidW := by blk_ext! [iblk, V, windows t0_0]
theorem iblk7 : iblk m c 7 t0_0 = (inputs m c).inB := by blk_ext! [iblk, V, windows t0_0]
theorem iblk8 : iblk m c 8 t0_0 = (inputs m c).hidB := by blk_ext! [iblk, V, windows t0_0]
theorem iblk9 : iblk m c 9 t0_0 = (inputs m c).projW := by blk_ext! [iblk, V, windows t0_0]
theorem iblk10 : iblk m c 10 t0_0 = (inputs m c).projB := by blk_ext! [iblk, V, windows t0_0]
theorem iblk11 : iblk m c 11 t0_0 = (inputs m c).compW := by blk_ext! [iblk, V, windows t0_0]
theorem iblk12 : iblk m c 12 t0_0 = (inputs m c).compB := by blk_ext! [iblk, V, windows t0_0]
theorem iblk13 : iblk m c 13 t0_0 = (inputs m c).outW := by blk_ext! [iblk, V, windows t0_0]
theorem iblk14 : iblk m c 14 t0_0 = (inputs m c).outB := by blk_ext! [iblk, V, windows t0_0]

/-- The first chunk the kernel fetches is the first 5120 nodes. -/
theorem fetch1 : ReadAs.same.apply (View.read (Elt Ideal)
      ((View.whole main_arg2).slice (Rect.unit ![0, 0] ![5120, 256] inb_S10000x256_S5120x256_0_0)) (V m c main_arg2)) =
    head (inputs m c).nodes := by
  funext j
  refine congrArg (m ((c : Thread nD τ).loc main_arg2)) (funext fun a => ?_)
  match a with
  | ⟨0, _⟩ => exact Fin.ext (by show 0 + 1 * (j 0).val = (j 0).val; omega)
  | ⟨1, _⟩ => exact Fin.ext (by show 0 + 1 * (j 1).val = (j 1).val; omega)

/-- The second chunk the kernel fetches is the last 4880 nodes. -/
theorem fetch2 : ReadAs.same.apply (View.read (Elt Ideal)
      ((View.whole main_arg2).slice (Rect.unit ![5120, 0] ![4880, 256] inb_S10000x256_S4880x256_5120_0)) (V m c main_arg2)) =
    tail (inputs m c).nodes := by
  funext j
  refine congrArg (m ((c : Thread nD τ).loc main_arg2)) (funext fun a => ?_)
  match a with
  | ⟨0, _⟩ => exact Fin.ext (by show 5120 + 1 * (j 0).val = 5120 + (j 0).val; omega)
  | ⟨1, _⟩ => exact Fin.ext (by show 0 + 1 * (j 1).val = (j 1).val; omega)

/-- The output array the kernel leaves. -/
theorem final15 : (dats m 0 c).arrAt 15 cfg0.N = outRows (inputs m c) := by
  refine (dats m 0 c).arrAt_eq_of_after_last 15 t0_0 (by decide +kernel) _ fun j => ?_
  blk_simp
  rw [after0_15]
  unfold outsAt0
  frame_open
  simp (disch := decide) only [↓ View.readCov_skip, ↓ View.readCov_cons_toLoadRect]
  frame_out
  simp only [read_unread_whole]
  rw [iblk0, iblk1, iblk2, iblk3, iblk4, iblk5, iblk6, iblk7, iblk8, iblk9, iblk10, iblk11, iblk12, iblk13, iblk14,
    fetch1, fetch2]
  rfl

/-- The hidden array the kernel leaves. -/
theorem final16 : (dats m 0 c).arrAt 16 cfg0.N = hidRows (inputs m c) := by
  refine (dats m 0 c).arrAt_eq_of_after_last 16 t0_0 (by decide +kernel) _ fun j => ?_
  blk_simp
  rw [after0_16]
  unfold outsAt0
  frame_open
  frame_out
  simp only [read_unread_whole]
  rw [iblk0, iblk1, iblk3, iblk4, iblk5, iblk6, iblk7, iblk8]
  rfl

/-- The attention array the kernel leaves. -/
theorem final17 : (dats m 0 c).arrAt 17 cfg0.N = attRows (inputs m c) := by
  refine (dats m 0 c).arrAt_eq_of_after_last 17 t0_0 (by decide +kernel) _ fun j => ?_
  blk_simp
  rw [after0_17]
  unfold outsAt0
  frame_open
  simp (disch := decide) only [↓ View.readCov_skip, ↓ View.readCov_cons_toLoadRect]
  frame_out
  simp only [read_unread_whole]
  rw [iblk0, iblk1, iblk2, iblk3, iblk4, iblk5, iblk6, iblk7, iblk8, iblk9, iblk10, fetch1, fetch2, scores_read]
  rfl

end Cert.KernelIdeal.Run
end
-- ==== Proof.KernelRead.lean ====
module
public import proofs.«01_k».proof.Proof.KernelRun

/-!
# The kernel computes the formulas

Each block of the kernel, read at an entry: the running maximum is some real number, the segments' sums and the contexts'
numerators are the plain ones times the exponential of its negative, and the quotients cancel that factor.
-/

@[expose] public section

set_option maxRecDepth 16384

noncomputable section

namespace Cert.KernelIdeal.Run

open Cert.KernelIdeal Cert.KernelIdeal.Gen Cert.KernelIdeal.Value
open Idealize.ShloMosaic Idealize.ShloMosaic.TcCoe
open SegmentAttention

/-- Node x of the first chunk. -/
def headN (x : Fin 5120) : Fin 10000 := ⟨x.val, by have := x.isLt; omega⟩

/-- Node x of the second chunk. -/
def tailN (x : Fin 4880) : Fin 10000 := ⟨5120 + x.val, by have := x.isLt; omega⟩

/-- A sum over the nodes is the sum over the first chunk plus the sum over the second. -/
theorem sum_split (f : Fin 10000 → ℝ) : ∑ n, f n = ∑ x, f (headN x) + ∑ x, f (tailN x) :=
  Fin.sum_univ_add (a := 5120) (b := 4880) f

/-- The membership mask as a number. -/
theorem mask_eq (u v : BitVec 32) :
    (FloatOps.sitofp .f32 (BitVec.setWidth 32 (IntOp.cmpi .eq u v)) : Ideal .f32) =
      ((if v = u then 1 else 0 : ℝ) : EReal) := by
  show (((BitVec.setWidth 32 (IntOp.cmpi .eq u v)).toInt : ℝ) : EReal) = _
  by_cases h : u = v
  · rw [if_pos h.symm, h]
    simp [IntOp.cmpi]
  · rw [if_neg fun e => h e.symm]
    have e : (u == v) = false := by simpa using h
    simp [IntOp.cmpi, e]

/-- A selection on the equality of two words. -/
theorem select_eq (u v : BitVec 32) (x y : EReal) : Scalar.select (IntOp.cmpi .eq u v) x y = if u = v then x else y := by
  by_cases h : u = v
  · simp [Scalar.select, IntOp.cmpi, h]
  · have e : (u == v) = false := by simpa using h
    simp [Scalar.select, IntOp.cmpi, e, h]

/-- The exponentials of numbers less r, summed where the mask is one: the plain sum times the exponential of -r. -/
theorem masked_sum {α : Type} [Fintype α] (l : α → ℝ) (p : α → Prop) [DecidablePred p] (r : ℝ) :
    ∑ x, Ideal.exp ((l x : EReal) - (r : EReal)) * ((if p x then 1 else 0 : ℝ) : EReal) =
      (((∑ x, if p x then Real.exp (l x) else 0) * Real.exp (-r) : ℝ) : EReal) := by
  rw [Finset.sum_mul, coe_sum]
  refine Finset.sum_congr rfl fun x _ => ?_
  rw [exp_sub, ← EReal.coe_mul, sub_eq_add_neg, Real.exp_add]
  congr 1
  split <;> ring

/-- The same with a factor of each number's own. -/
theorem masked_sum_mul {α : Type} [Fintype α] (l w : α → ℝ) (p : α → Prop) [DecidablePred p] (r : ℝ) :
    ∑ x, Ideal.exp ((l x : EReal) - (r : EReal)) * ((if p x then 1 else 0 : ℝ) : EReal) * (w x : EReal) =
      (((∑ x, if p x then Real.exp (l x) * w x else 0) * Real.exp (-r) : ℝ) : EReal) := by
  rw [Finset.sum_mul, coe_sum]
  refine Finset.sum_congr rfl fun x _ => ?_
  rw [exp_sub, ← EReal.coe_mul, ← EReal.coe_mul, sub_eq_add_neg, Real.exp_add]
  congr 1
  split <;> ring

/-- Eight selections, one per segment: the one of the node's segment. -/
theorem eight (f : Fin 8 → EReal) (s : Fin 8) :
    Scalar.select (IntOp.cmpi .eq (BitVec.ofNat 32 s.val) 0#32) (f 0) 0 +
      Scalar.select (IntOp.cmpi .eq (BitVec.ofNat 32 s.val) 1#32) (f 1) 0 +
      Scalar.select (IntOp.cmpi .eq (BitVec.ofNat 32 s.val) 2#32) (f 2) 0 +
      Scalar.select (IntOp.cmpi .eq (BitVec.ofNat 32 s.val) 3#32) (f 3) 0 +
      Scalar.select (IntOp.cmpi .eq (BitVec.ofNat 32 s.val) 4#32) (f 4) 0 +
      Scalar.select (IntOp.cmpi .eq (BitVec.ofNat 32 s.val) 5#32) (f 5) 0 +
      Scalar.select (IntOp.cmpi .eq (BitVec.ofNat 32 s.val) 6#32) (f 6) 0 +
      Scalar.select (IntOp.cmpi .eq (BitVec.ofNat 32 s.val) 7#32) (f 7) 0 = f s := by
  simp only [select_eq]
  fin_cases s <;> simp

/-- The sum over a row of the entries on the diagonal is the diagonal entry. -/
theorem diag_sum (f : Fin 8 → EReal) (b : Fin 8) :
    ∑ x : Fin 8, Scalar.select (IntOp.cmpi .eq (BitVec.ofNat 32 b.val) (BitVec.ofNat 32 x.val)) (f x) 0 = f b := by
  have e : ∀ b x : Fin 8, BitVec.ofNat 32 b.val = BitVec.ofNat 32 x.val ↔ b = x := by decide
  simp only [select_eq, e]
  simp

section Blocks

variable (I : Inputs)

/-- The kernel's encoder at an entry. -/
theorem enc_apply (b : Fin 8) (k : Fin 256) : k0_pay1 (F := Ideal) I.x I.encW I.encB (ix2 b k) = I.enc b k := by
  pointwise [k0_pay1]
  rfl

/-- The kernel's new hidden state at an entry. -/
theorem hid_apply (b : Fin 8) (k : Fin 256) :
    k0_pay5 (F := Ideal) (k0_pay2 I.h) (k0_pay3 I.x I.encW I.encB I.inW I.inB) (k0_pay4 I.h I.hidW) I.hidB (ix2 b k) = I.hid b k := by
  have e3 : ∀ j : Fin 768, k0_pay3 (F := Ideal) I.x I.encW I.encB I.inW I.inB (ix2 b j) = I.gx b j := by
    intro j
    pointwise [k0_pay3]
    simp only [enc_apply]
    rfl
  have e4 : ∀ j : Fin 768, k0_pay4 (F := Ideal) I.h I.hidW (ix2 b j) + I.hidB (ix1 j) = I.gh b j := by
    intro j
    pointwise [k0_pay4, k0_pay2]
    rfl
  have e2 : k0_pay2 (F := Ideal) I.h (ix2 b k) = I.h (ix3 (0 : Fin 1) b k) := by
    pointwise [k0_pay2]
  pointwise [k0_pay5]
  simp only [e3, e4, e2]
  rfl

/-- The hidden block at an entry. -/
theorem hidRows_apply (b : Fin 8) (k : Fin 256) : hidRows I (ix3 (0 : Fin 1) b k) = I.hid b k := by
  pointwise [hidRows, k0_pay6]
  exact hid_apply I b k

/-- The query block at an entry. -/
theorem queryWide_apply (b : Fin 8) (k : Fin 256) : queryWide I (ix2 b k) = I.query b k := by
  pointwise [queryWide, k0_pay7]
  simp only [hid_apply]
  rfl

/-- The cast query block at an entry. -/
theorem queryRows_apply (b : Fin 8) (k : Fin 256) : queryRows I (ix2 b k) = I.query b k := by
  pointwise [queryRows, k0_pay8]
  exact queryWide_apply I b k

/-- The first chunk's scores. -/
theorem score_head (b : Fin 8) (x : Fin 5120) :
    ∑ i, queryRows I (ix2 b i) * head I.nodes (ix2 x i) = I.score b (headN x) := by
  simp only [queryRows_apply]
  rfl

/-- The second chunk's scores. -/
theorem score_tail (b : Fin 8) (x : Fin 4880) : scores2 I (ix2 b x) = I.score b (tailN x) := by
  pointwise [scores2, k0_pay23, k0_pay22]
  simp only [queryRows_apply]
  rfl

/-- All scores. -/
theorem allScores_apply (b : Fin 8) (n : Fin 10000) : allScores (queryRows I) I.nodes (ix2 b n) = I.score b n := by
  show ∑ i, queryRows I (ix2 b i) * I.nodes (ix2 n i) = _
  simp only [queryRows_apply]
  rfl

variable (g : I.Good)

include g

/-- The scores as real numbers, and the exponentials the formulas take of them. -/
theorem scores_real : ∃ l : Fin 8 → Fin 10000 → ℝ,
    (∀ b n, I.score b n = (l b n : EReal)) ∧ ∀ b n, I.expScore b n = Real.exp (l b n) :=
  ⟨fun b n => (I.score b n).toReal, fun b n => score_eq g b n, fun _ _ => rfl⟩

/-- The nodes as real numbers. -/
theorem nodes_real : ∃ w : Fin 10000 → Fin 256 → ℝ,
    (∀ n k, I.nodes (ix2 n k) = (w n k : EReal)) ∧ ∀ n k, (I.nodes (ix2 n k)).toReal = w n k :=
  ⟨fun n k => (I.nodes (ix2 n k)).toReal, fun n k => node_eq g n k, fun _ _ => rfl⟩

/-- The running maximum after the first chunk is a real number. -/
theorem max1_real (b : Fin 8) : ∃ r : ℝ, max1 I (ix2 b (0 : Fin 1)) = (r : EReal) := by
  obtain ⟨r0, h0⟩ := lowest_real
  pointwise [max1, k0_pay16, k0_pay10, k0_pay14, k0_pay13]
  simp only [score_head]
  rw [negInf, h0]
  obtain ⟨r, hr⟩ := fold_max_real Finset.univ (fun x => I.score b (headN x))
    (fun x => by rw [score_eq g]; exact EReal.coe_ne_top _) ⟨0, Finset.mem_univ _, _, score_eq g b _⟩
  exact ⟨max r0 r, by rw [hr, max_real]⟩

/-- The running maximum after the second chunk is a real number. -/
theorem max2_real (b : Fin 8) : ∃ r : ℝ, max2 I (ix2 b (0 : Fin 1)) = (r : EReal) := by
  obtain ⟨r1, h1⟩ := max1_real I g b
  pointwise [max2, k0_pay25]
  simp only [score_tail]
  rw [negInf, h1]
  obtain ⟨r, hr⟩ := fold_max_real Finset.univ (fun x => I.score b (tailN x))
    (fun x => by rw [score_eq g]; exact EReal.coe_ne_top _) ⟨0, Finset.mem_univ _, _, score_eq g b _⟩
  exact ⟨max r1 r, by rw [hr, max_real]⟩

/-- The segments' sums after the first chunk. -/
theorem sum1_apply (b s : Fin 8) (r : ℝ) (hr : max1 I (ix2 b (0 : Fin 1)) = (r : EReal)) :
    sum1 I (ix2 b s) =
      (((∑ x, if I.seg (ix1 (headN x)) = BitVec.ofNat 32 s.val then I.expScore b (headN x) else 0) * Real.exp (-r) : ℝ) :
        EReal) := by
  have hr' : k0_pay16 (queryRows I) k0_pay10 (head I.nodes) (ix2 b (0 : Fin 1)) = (r : EReal) := hr
  pointwise [sum1, segRow, k0_pay20, k0_pay9, k0_pay11, k0_pay18, k0_pay19, k0_pay13, k0_pay14]
  simp only [mask_eq, score_head]
  rw [zero_mul, zero_add, hr']
  obtain ⟨l, hl, he⟩ := scores_real I g
  simp only [hl, he]
  exact masked_sum (fun x => l b (headN x)) (fun x => I.seg (ix1 (headN x)) = BitVec.ofNat 32 s.val) r

/-- The contexts' numerators after the first chunk. -/
theorem acc1_apply (b : Fin 8) (k : Fin 256) (r : ℝ) (hr : max1 I (ix2 b (0 : Fin 1)) = (r : EReal)) :
    acc1 I (ix2 b k) =
      (((∑ x, if I.seg (ix1 (headN x)) = BitVec.ofNat 32 b.val then
        I.expScore b (headN x) * (I.nodes (ix2 (headN x) k)).toReal else 0) * Real.exp (-r) : ℝ) : EReal) := by
  have hr' : k0_pay16 (queryRows I) k0_pay10 (head I.nodes) (ix2 b (0 : Fin 1)) = (r : EReal) := hr
  have hn : ∀ x : Fin 5120, head I.nodes (ix2 x k) = I.nodes (ix2 (headN x) k) := fun x => rfl
  pointwise [acc1, segRow, k0_pay21, k0_pay9, k0_pay12, k0_pay18, k0_pay19, k0_pay13, k0_pay14]
  simp only [mask_eq, score_head, hn]
  rw [zero_mul, zero_add, hr']
  obtain ⟨l, hl, he⟩ := scores_real I g
  obtain ⟨w, hw, hw'⟩ := nodes_real I g
  simp only [hl, he, hw, hw']
  simp only [EReal.toReal_coe]
  exact masked_sum_mul (fun x => l b (headN x)) (fun x => w (headN x) k)
    (fun x => I.seg (ix1 (headN x)) = BitVec.ofNat 32 b.val) r

/-- The segments' sums after the second chunk. -/
theorem sum2_apply (b s : Fin 8) (r : ℝ) (hr : max2 I (ix2 b (0 : Fin 1)) = (r : EReal)) :
    sum2 I (ix2 b s) = ((I.total b (BitVec.ofNat 32 s.val) * Real.exp (-r) : ℝ) : EReal) := by
  obtain ⟨r1, h1⟩ := max1_real I g b
  have hr' : k0_pay25 (max1 I) (scores2 I) (ix2 b (0 : Fin 1)) = (r : EReal) := hr
  pointwise [sum2, segRow, k0_pay29, k0_pay9, k0_pay26, k0_pay27, k0_pay28]
  simp only [mask_eq, score_tail]
  rw [sum1_apply I g b s r1 h1, hr', h1, exp_sub]
  obtain ⟨l, hl, he⟩ := scores_real I g
  simp only [hl, he]
  refine (congrArg₂ (· + ·) rfl (masked_sum (fun x => l b (tailN x))
    (fun x => I.seg (ix1 (tailN x)) = BitVec.ofNat 32 s.val) r)).trans ?_
  rw [← EReal.coe_mul, ← EReal.coe_add, Inputs.total, sum_split, add_mul, mul_assoc, ← Real.exp_add,
    show -r1 + (r1 - r) = -r by ring]
  simp only [he]

/-- The contexts. -/
theorem context_apply (b : Fin 8) (k : Fin 256) (r : ℝ) (hr : max2 I (ix2 b (0 : Fin 1)) = (r : EReal)) (r1 : ℝ)
    (h1 : max1 I (ix2 b (0 : Fin 1)) = (r1 : EReal)) :
    Ideal.div (acc1 I (ix2 b k) * Ideal.exp ((r1 : EReal) - (r : EReal)) +
        ∑ x, Ideal.exp (I.score b (tailN x) - (r : EReal)) *
          ((if I.seg (ix1 (tailN x)) = BitVec.ofNat 32 b.val then 1 else 0 : ℝ) : EReal) * I.nodes (ix2 (tailN x) k))
      (sum2 I (ix2 b b)) = ((I.ctx b k : ℝ) : EReal) := by
  obtain ⟨n, hn⟩ := g.populated b
  have hp := total_pos b _ n hn
  rw [acc1_apply I g b k r1 h1, sum2_apply I g b b r hr, exp_sub]
  obtain ⟨l, hl, he⟩ := scores_real I g
  obtain ⟨w, hw, hw'⟩ := nodes_real I g
  simp only [hl, he, hw, EReal.toReal_coe]
  rw [masked_sum_mul (fun x => l b (tailN x)) (fun x => w (tailN x) k)
    (fun x => I.seg (ix1 (tailN x)) = BitVec.ofNat 32 b.val) r, ← EReal.coe_mul, ← EReal.coe_add,
    div_real _ (mul_pos hp (Real.exp_pos _)).ne', mul_assoc, ← Real.exp_add, show -r1 + (r1 - r) = -r by ring, ← add_mul,
    mul_div_mul_right _ _ (Real.exp_pos _).ne']
  refine congrArg _ ?_
  have e := sum_split fun n => if I.seg (ix1 n) = BitVec.ofNat 32 b.val then Real.exp (l b n) * w n k else 0
  refine (congrArg (· / I.total b (BitVec.ofNat 32 b.val)) e.symm).trans ?_
  rw [Inputs.ctx, Finset.sum_div]
  refine Finset.sum_congr rfl fun n _ => ?_
  by_cases h : I.seg (ix1 n) = BitVec.ofNat 32 b.val
  · rw [if_pos h, if_pos h, Inputs.att, h, he, hw']
    ring
  · rw [if_neg h, if_neg h, zero_div]

/-- The composed rows at an entry. -/
theorem compRows_apply (b : Fin 8) (k : Fin 256) : compRows I (ix2 b k) = I.comp b k := by
  obtain ⟨r, hr⟩ := max2_real I g b
  obtain ⟨r1, h1⟩ := max1_real I g b
  have hr' : k0_pay25 (max1 I) (scores2 I) (ix2 b (0 : Fin 1)) = (r : EReal) := hr
  have hc := fun k => context_apply I g b k r hr r1 h1
  have hn : ∀ (x : Fin 4880) (k : Fin 256), tail I.nodes (ix2 x k) = I.nodes (ix2 (tailN x) k) := fun x k => rfl
  pointwise [compRows, k0_pay30, k0_pay26, k0_pay27, k0_pay28, k0_pay22, segRow, k0_pay9]
  rw [Inputs.comp]
  refine congrArg (fun z => max (z + I.compB (ix1 k)) 0) (Finset.sum_congr rfl fun j _ => ?_)
  refine congrArg (· * I.compW (ix2 k j)) ?_
  unfold Inputs.joined
  split
  · exact queryWide_apply I b _
  split
  · simp only [mask_eq, score_tail, hn]
    rw [h1, hr', ← hc]
    refine congrArg (Ideal.div _) ?_
    exact diag_sum (fun x => sum2 I (ix2 b x)) b
  · exact enc_apply I b _

/-- The output block at an entry. -/
theorem outRows_apply (b : Fin 8) (k : Fin 512) : outRows I (ix2 b k) = I.out b k := by
  pointwise [outRows, k0_pay31]
  simp only [compRows_apply I g]
  rfl

/-- The attention block at an entry. -/
theorem attRows_apply (b : Fin 8) (n : Fin 10000) : attRows I (ix2 b n) = ((I.att b n : ℝ) : EReal) := by
  obtain ⟨r, hr⟩ := max2_real I g b
  obtain ⟨s, hs⟩ := g.range n
  have hp := total_pos b _ n hs
  pointwise [attRows, segRow, k0_pay36, k0_pay9, k0_pay32, k0_pay33, k0_pay34, k0_pay35]
  rw [hs, eight (fun s => Ideal.div 1 (sum2 I (ix2 b s))) s, allScores_apply, sum2_apply I g b s r hr, hr, score_eq g,
    exp_sub, ← EReal.coe_one, div_real _ (mul_pos hp (Real.exp_pos _)).ne', ← EReal.coe_mul, Inputs.att, hs]
  refine congrArg _ ?_
  have := hp.ne'
  have := (Real.exp_pos (-r)).ne'
  rw [sub_eq_add_neg, Real.exp_add, Inputs.expScore]
  field_simp

end Blocks

end Cert.KernelIdeal.Run
end
-- ==== Proof.RefTerms.lean ====
module
public import proofs.«01_k».proof.Proof.Gen.ReferenceIdeal.Run
public import Idealize.ShloMosaic.Lib.Pointwise

/-!
# The reference's results, stage by stage

The reference is one GRU step followed by a segment softmax over the graph's nodes. Each stage gets a definition of its
own here, and the three results are stated as compositions of those stages.
-/

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe

/-- The input encoder: rows times weights plus bias, cut off below at zero. -/
def encoded (x : FVec Ideal S1x8x512 .f32) (W : FVec Ideal S256x512 .f32) (b : FVec Ideal S256 .f32) :
    FVec Ideal S1x8x256 .f32 :=
  maximumf (addf (Host.dotGeneral dot_S1x8x512_S256x512_S1x8x256_2_1_01_0_n_n none x W)
      (broadcastInDim S1x8x256 ![0, 1, 2] bcast_S1x1x256_S1x8x256_0_1_2
        (broadcastInDim S1x1x256 ![2] bcast_S256_S1x1x256_2 b)))
    (broadcastInDim S1x8x256 ![] bcast_S_S1x8x256 (constant S_ .f32 0x00000000#32))

/-- The three gates' linear part, side by side: rows times transposed weights plus bias. -/
def gates (a : FVec Ideal S8x256 .f32) (W : FVec Ideal S768x256 .f32) (b : FVec Ideal S768 .f32) :
    FVec Ideal S8x768 .f32 :=
  addf (Host.dotGeneral dot_S8x256_S256x768_S8x768_1_0_0_1_n_n none a
      (transpose S256x768 [1, 0] W transposes_S768x256_S256x768_1_0))
    (broadcastInDim S8x768 ![0, 1] bcast_S1x768_S8x768_0_1 (broadcastInDim S1x768 ![1] bcast_S768_S1x768_1 b))

/-- The block of ones the gates are computed with. -/
def ones : FVec Ideal S8x256 .f32 := broadcastInDim S8x256 ![] bcast_S_S8x256 (constant S_ .f32 0x3F800000#32)

/-- The logistic function spelt with a quotient. -/
def sigm (x : FVec Ideal S8x256 .f32) : FVec Ideal S8x256 .f32 := Host.divf ones (addf ones (Host.exp (Host.negf x)))

/-- The GRU update of the hidden state from the two triples of gates. -/
def update (h : FVec Ideal S8x256 .f32) (gx gh : FVec Ideal S8x768 .f32) : FVec Ideal S8x256 .f32 :=
  addf (mulf (subf ones
      (sigm (addf (extractStridedSlice S8x256 ![0, 256] gx slices_S8x768_S8x256_0_256)
        (extractStridedSlice S8x256 ![0, 256] gh slices_S8x768_S8x256_0_256))))
    (Host.tanh (addf (extractStridedSlice S8x256 ![0, 512] gx slices_S8x768_S8x256_0_512)
      (mulf (sigm (addf (extractStridedSlice S8x256 ![0, 0] gx slices_S8x768_S8x256_0_0)
          (extractStridedSlice S8x256 ![0, 0] gh slices_S8x768_S8x256_0_0)))
        (extractStridedSlice S8x256 ![0, 512] gh slices_S8x768_S8x256_0_512)))))
    (mulf (sigm (addf (extractStridedSlice S8x256 ![0, 256] gx slices_S8x768_S8x256_0_256)
      (extractStridedSlice S8x256 ![0, 256] gh slices_S8x768_S8x256_0_256))) h)

/-- The new hidden state as a block of rows. -/
def hidden (x0 : FVec Ideal S1x8x512 .f32) (x1 : FVec Ideal S1x8x256 .f32) (x4 : FVec Ideal S256x512 .f32)
    (x5 : FVec Ideal S256 .f32) (x6 x7 : FVec Ideal S768x256 .f32) (x8 x9 : FVec Ideal S768 .f32) :
    FVec Ideal S8x256 .f32 :=
  update (shapeCast S8x256 x1 shapeCasts_S1x8x256_S8x256)
    (gates (shapeCast S8x256 (encoded x0 x4 x5) shapeCasts_S1x8x256_S8x256) x6 x8)
    (gates (shapeCast S8x256 x1 shapeCasts_S1x8x256_S8x256) x7 x9)

/-- The new hidden state with its leading axis of length one. -/
def hidden3 (h : FVec Ideal S8x256 .f32) : FVec Ideal S1x8x256 .f32 :=
  broadcastInDim S1x8x256 ![1, 2] bcast_S8x256_S1x8x256_1_2 h

/-- The queries: the hidden state cut off below at zero, projected. -/
def query (h : FVec Ideal S1x8x256 .f32) (W : FVec Ideal S256x256 .f32) (b : FVec Ideal S256 .f32) :
    FVec Ideal S1x8x256 .f32 :=
  addf (Host.dotGeneral dot_S1x8x256_S256x256_S1x8x256_2_0_01_1_n_n none
      (maximumf h (broadcastInDim S1x8x256 ![] bcast_S_S1x8x256 (constant S_ .f32 0x00000000#32)))
      (transpose S256x256 [1, 0] W transposes_S256x256_S256x256_1_0))
    (broadcastInDim S1x8x256 ![0, 1, 2] bcast_S1x1x256_S1x8x256_0_1_2
      (broadcastInDim S1x1x256 ![2] bcast_S256_S1x1x256_2 b))

/-- The scores: node n against query b. -/
def scores (q : FVec Ideal S1x8x256 .f32) (nodes : FVec Ideal S10000x256 .f32) : FVec Ideal S10000x8 .f32 :=
  transpose S10000x8 [1, 0] (Host.reduceAdd (mulf
      (broadcastInDim S8x10000x256 ![0, 1, 2] bcast_S8x1x256_S8x10000x256_0_1_2
        (transpose S8x1x256 [1, 0, 2] q transposes_S1x8x256_S8x1x256_1_0_2))
      (broadcastInDim S8x10000x256 ![0, 1, 2] bcast_S1x10000x256_S8x10000x256_0_1_2
        (broadcastInDim S1x10000x256 ![1, 2] bcast_S10000x256_S1x10000x256_1_2 nodes)))
    (constant S_ .f32 0x00000000#32) reducesTo_S8x10000x256_S8x10000_d2 h_S_) transposes_S8x10000_S10000x8_1_0

/-- The largest score of each segment, for each query. -/
def segMax (t : FVec Ideal S10000x8 .f32) (seg : IVec S10000 32) : FVec Ideal S8x8 .f32 :=
  Host.reduce FloatOps.maximumf (select
      (broadcastInDim S10000x8x8 ![0, 1, 2] bcast_S10000x8x1_S10000x8x8_0_1_2
        (broadcastInDim S10000x8x1 ![0, 1] bcast_S10000x8_S10000x8x1_0_1
          (cmpi .eq (broadcastInDim S10000x8 ![0, 1] bcast_S10000x1_S10000x8_0_1
              (broadcastInDim S10000x1 ![0] bcast_S10000_S10000x1_0 seg))
            (broadcastInDim S10000x8 ![0, 1] bcast_S1x8_S10000x8_0_1
              (broadcastInDim S1x8 ![1] bcast_S8_S1x8_1 (iotaInDim S8 32 0))))))
      (broadcastInDim S10000x8x8 ![0, 1, 2] bcast_S10000x1x8_S10000x8x8_0_1_2
        (broadcastInDim S10000x1x8 ![0, 2] bcast_S10000x8_S10000x1x8_0_2 t))
      (broadcastInDim S10000x8x8 ![] bcast_S_S10000x8x8 (id (constant S_ .f32 0xFF800000#32))))
    (constant S_ .f32 0xFF800000#32) reducesTo_S10000x8x8_S8x8_d0 h_S_

/-- The segment numbers as row numbers: a negative one counts from the end. -/
def rowIndex (seg : IVec S10000 32) : IVec S10000x1 32 :=
  broadcastInDim S10000x1 ![0] bcast_S10000_S10000x1_0
    (select (cmpi .slt seg (broadcastInDim S10000 ![] bcast_S_S10000 (constantI S_ 32 (0#32))))
      (addi seg (broadcastInDim S10000 ![] bcast_S_S10000 (constantI S_ 32 (8#32)))) seg)

/-- The segment numbers as a column. -/
def segColumn (seg : IVec S10000 32) : IVec S10000x1 32 :=
  broadcastInDim S10000x1 ![0] bcast_S10000_S10000x1_0 seg

/-- Each node's row of a table with one row per segment. -/
def ofSegment (x : FVec Ideal S8x8 .f32) (seg : IVec S10000 32) : FVec Ideal S10000x8 .f32 :=
  Host.gather gather_S8x8_S10000x1_S10000x8_1_0_n_n_0_1_18 x (rowIndex seg)

/-- The exponentials of the scores less their segment's largest. -/
def weights (t : FVec Ideal S10000x8 .f32) (seg : IVec S10000 32) : FVec Ideal S10000x8 .f32 :=
  Host.exp (subf t (ofSegment (segMax t seg) seg))

/-- The sums over each segment. -/
def segSum (e : FVec Ideal S10000x8 .f32) (seg : IVec S10000 32) : FVec Ideal S8x8 .f32 :=
  Host.scatterAdd scatter_S8x8_S10000x1_S10000x8_1_0_0_1
    (broadcastInDim S8x8 ![] bcast_S_S8x8 (constant S_ .f32 0x00000000#32)) (segColumn seg) e

/-- The weights divided by their segment's sum, one row per query. -/
def attention (e : FVec Ideal S10000x8 .f32) (seg : IVec S10000 32) : FVec Ideal S8x10000 .f32 :=
  transpose S8x10000 [1, 0] (Host.divf e (ofSegment (segSum e seg) seg)) transposes_S10000x8_S8x10000_1_0

/-- The nodes' rows weighted by each query's attention. -/
def weighted (a : FVec Ideal S8x10000 .f32) (nodes : FVec Ideal S10000x256 .f32) : FVec Ideal S10000x8x256 .f32 :=
  transpose S10000x8x256 [1, 0, 2] (mulf
      (broadcastInDim S8x10000x256 ![0, 1, 2] bcast_S8x10000x1_S8x10000x256_0_1_2
        (broadcastInDim S8x10000x1 ![0, 1] bcast_S8x10000_S8x10000x1_0_1 a))
      (broadcastInDim S8x10000x256 ![0, 1, 2] bcast_S1x10000x256_S8x10000x256_0_1_2
        (broadcastInDim S1x10000x256 ![1, 2] bcast_S10000x256_S1x10000x256_1_2 nodes)))
    transposes_S8x10000x256_S10000x8x256_1_0_2

/-- The weighted rows summed over each segment, for each query. -/
def contexts (w : FVec Ideal S10000x8x256 .f32) (seg : IVec S10000 32) : FVec Ideal S8x8x256 .f32 :=
  Host.scatterAdd scatter_S8x8x256_S10000x1_S10000x8x256_12_0_0_1
    (broadcastInDim S8x8x256 ![] bcast_S_S8x8x256 (constant S_ .f32 0x00000000#32)) (segColumn seg) w

/-- The numbers 0 to 7 as a column, a negative one counting from the end. -/
def diagColumn : IVec S8x1 32 :=
  broadcastInDim S8x1 ![0] bcast_S8_S8x1_0
    (select (cmpi .slt (iotaInDim S8 32 0) (broadcastInDim S8 ![] bcast_S_S8 (constantI S_ 32 (0#32))))
      (addi (iotaInDim S8 32 0) (broadcastInDim S8 ![] bcast_S_S8 (constantI S_ 32 (8#32)))) (iotaInDim S8 32 0))

/-- The pairs (b, b). -/
def diagIndex : IVec S8x2 32 := fn_main_v114 (F := Ideal) diagColumn diagColumn

/-- Query b's context for segment b. -/
def diagonal (s : FVec Ideal S8x8x256 .f32) : FVec Ideal S8x256 .f32 :=
  Host.gather gather_S8x8x256_S8x2_S8x256_1_01_n_n_01_1_11256 s diagIndex

/-- Query, context and encoded input side by side. -/
def joined (q : FVec Ideal S1x8x256 .f32) (ctx : FVec Ideal S8x256 .f32) (enc : FVec Ideal S1x8x256 .f32) :
    FVec Ideal S8x768 .f32 :=
  fn_main_v118 (F := Ideal) (shapeCast S8x256 q shapeCasts_S1x8x256_S8x256) ctx
    (shapeCast S8x256 enc shapeCasts_S1x8x256_S8x256)

/-- The joined rows' linear layer, cut off below at zero. -/
def composed (j : FVec Ideal S8x768 .f32) (W : FVec Ideal S256x768 .f32) (b : FVec Ideal S256 .f32) :
    FVec Ideal S8x256 .f32 :=
  maximumf (addf (Host.dotGeneral dot_S8x768_S768x256_S8x256_1_0_0_1_n_n none j
        (transpose S768x256 [1, 0] W transposes_S256x768_S768x256_1_0))
      (broadcastInDim S8x256 ![0, 1] bcast_S1x256_S8x256_0_1 (broadcastInDim S1x256 ![1] bcast_S256_S1x256_1 b)))
    (broadcastInDim S8x256 ![] bcast_S_S8x256 (constant S_ .f32 0x00000000#32))

/-- The output layer. -/
def output (a : FVec Ideal S8x256 .f32) (W : FVec Ideal S512x256 .f32) (b : FVec Ideal S512 .f32) :
    FVec Ideal S8x512 .f32 :=
  addf (Host.dotGeneral dot_S8x256_S256x512_S8x512_1_0_0_1_n_n none a
        (transpose S256x512 [1, 0] W transposes_S512x256_S256x512_1_0))
      (broadcastInDim S8x512 ![0, 1] bcast_S1x512_S8x512_0_1 (broadcastInDim S1x512 ![1] bcast_S512_S1x512_1 b))

variable (m : (ℓ : Loc nD τ sig) → Buf (Elt Ideal) ℓ) (c : Dev nD)

/-- The new hidden state of the arguments. -/
def argHidden : FVec Ideal S8x256 .f32 :=
  hidden (m ((c.tc : Thread nD τ).loc main_arg0)) (m ((c.tc : Thread nD τ).loc main_arg1))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- The queries of the arguments. -/
def argQuery : FVec Ideal S1x8x256 .f32 :=
  query (hidden3 (argHidden m c)) (m ((c.tc : Thread nD τ).loc main_arg10)) (m ((c.tc : Thread nD τ).loc main_arg11))

/-- The scores of the arguments. -/
def argScores : FVec Ideal S10000x8 .f32 := scores (argQuery m c) (m ((c.tc : Thread nD τ).loc main_arg2))

/-- The attention of the arguments. -/
def argAttention : FVec Ideal S8x10000 .f32 :=
  attention (weights (argScores m c) (m ((c.tc : Thread nD τ).loc main_arg3))) (m ((c.tc : Thread nD τ).loc main_arg3))

/-- The second result is the new hidden state. -/
theorem res1_eq : res_out1 m c = hidden3 (argHidden m c) := rfl

/-- The third result is the attention. -/
theorem res2_eq : res_out2 m c = argAttention m c := rfl

/-- The first result is the output layer of query, context and encoded input. -/
theorem res0_eq : res_out0 m c =
    output (composed (joined (argQuery m c)
        (diagonal (contexts (weighted (argAttention m c) (m ((c.tc : Thread nD τ).loc main_arg2)))
          (m ((c.tc : Thread nD τ).loc main_arg3))))
        (encoded (m ((c.tc : Thread nD τ).loc main_arg0)) (m ((c.tc : Thread nD τ).loc main_arg4))
          (m ((c.tc : Thread nD τ).loc main_arg5))))
      (m ((c.tc : Thread nD τ).loc main_arg12)) (m ((c.tc : Thread nD τ).loc main_arg13)))
      (m ((c.tc : Thread nD τ).loc main_arg14)) (m ((c.tc : Thread nD τ).loc main_arg15)) := rfl

end Cert.ReferenceIdeal.RefValue
end
-- ==== Proof.Landing.lean ====
module
public import proofs.«01_k».proof.Proof.RefTerms
public import Idealize.ShloMosaic.Lib.Routing.Ops

/-!
# Where the reference's scatters and gathers land

The two accumulating scatters add each node's row to its segment's row, and the last gather takes the diagonal.
-/

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe

/-- The dimension numbers of the scatter of rows. -/
abbrev rowsDims : ScatterDims S8x8 S10000x1 S10000x8 := scatter_S8x8_S10000x1_S10000x8_1_0_0_1

/-- The dimension numbers of the scatter of blocks. -/
abbrev blocksDims : ScatterDims S8x8x256 S10000x1 S10000x8x256 := scatter_S8x8x256_S10000x1_S10000x8x256_12_0_0_1

/-- The dimension numbers of the gather by pairs. -/
abbrev pairDims : GatherDims S8x8x256 S8x2 S8x256 := gather_S8x8x256_S8x2_S8x256_1_01_n_n_01_1_11256

section Rows

variable (idx : IVec S10000x1 32)

theorem rows_window0 (n : Fin 10000) (b : Fin 8) :
    rowsDims.window (ix2 n b) 0 = 0 := rfl

theorem rows_window1 (n : Fin 10000) (b : Fin 8) :
    rowsDims.window (ix2 n b) 1 = b.val := rfl

theorem rows_start0 (n : Fin 10000) (b : Fin 8) :
    rowsDims.start (ix2 n b) idx 0 = (idx (ix2 n (0 : Fin 1))).toInt := by
  refine congrArg (fun j => (idx j).toInt) (funext fun a => Fin.ext ?_ :
    rowsDims.siIdx (ix2 n b) ⟨0, by decide⟩ = ix2 n (0 : Fin 1))
  match a with
  | ⟨0, _⟩ => rfl
  | ⟨1, _⟩ => rfl

theorem rows_start1 (n : Fin 10000) (b : Fin 8) :
    rowsDims.start (ix2 n b) idx 1 = 0 := rfl

/-- Row n of the updates lands in row s exactly when the index of row n, read signed, is s; columns stay. -/
theorem rows_land (n : Fin 10000) (b' s b : Fin 8) :
    rowsDims.resultIdx? (ix2 n b') idx = some (ix2 s b) ↔
      (idx (ix2 n (0 : Fin 1))).toInt = (s.val : Int) ∧ b' = b := by
  have hs := s.isLt
  have hb := b'.isLt
  unfold ScatterDims.resultIdx?
  split
  · next h =>
    have h0 := h 0
    change 0 ≤ rowsDims.start (ix2 n b') idx 0 + (rowsDims.window (ix2 n b') 0 : Int) ∧
      rowsDims.start (ix2 n b') idx 0 + (rowsDims.window (ix2 n b') 0 : Int) < ((8 : Nat) : Int) at h0
    rw [rows_start0, rows_window0] at h0
    constructor
    · intro e
      have e0 := congrArg Fin.val (congrFun (Option.some.inj e) 0)
      have e1 := congrArg Fin.val (congrFun (Option.some.inj e) 1)
      change (rowsDims.start (ix2 n b') idx 0 + (rowsDims.window (ix2 n b') 0 : Int)).toNat = s.val at e0
      change (rowsDims.start (ix2 n b') idx 1 + (rowsDims.window (ix2 n b') 1 : Int)).toNat = b.val at e1
      rw [rows_start0, rows_window0] at e0
      rw [rows_start1, rows_window1] at e1
      exact ⟨by omega, Fin.ext (by omega)⟩
    · rintro ⟨e, rfl⟩
      refine congrArg some (funext fun a => Fin.ext ?_)
      match a with
      | ⟨0, _⟩ =>
        show (rowsDims.start (ix2 n b') idx 0 + (rowsDims.window (ix2 n b') 0 : Int)).toNat = s.val
        rw [rows_start0, rows_window0]
        omega
      | ⟨1, _⟩ =>
        show (rowsDims.start (ix2 n b') idx 1 + (rowsDims.window (ix2 n b') 1 : Int)).toNat = b'.val
        rw [rows_start1, rows_window1]
        omega
  · next h =>
    constructor
    · intro e; cases e
    · rintro ⟨e, rfl⟩
      refine (h fun a => ?_).elim
      match a with
      | ⟨0, _⟩ =>
        show 0 ≤ rowsDims.start (ix2 n b') idx 0 + (rowsDims.window (ix2 n b') 0 : Int) ∧
          rowsDims.start (ix2 n b') idx 0 + (rowsDims.window (ix2 n b') 0 : Int) < ((8 : Nat) : Int)
        rw [rows_start0, rows_window0]
        omega
      | ⟨1, _⟩ =>
        show 0 ≤ rowsDims.start (ix2 n b') idx 1 + (rowsDims.window (ix2 n b') 1 : Int) ∧
          rowsDims.start (ix2 n b') idx 1 + (rowsDims.window (ix2 n b') 1 : Int) < ((8 : Nat) : Int)
        rw [rows_start1, rows_window1]
        omega

/-- The scatter of rows into a table with one row per segment: each entry gains the sum of its column over the rows
    whose index is its row. -/
theorem rows_scatter (x : FVec Ideal S8x8 .f32) (upd : FVec Ideal S10000x8 .f32) (s b : Fin 8) :
    Host.scatterAdd rowsDims x idx upd (ix2 s b) =
      x (ix2 s b) + ∑ n : Fin 10000, if (idx (ix2 n (0 : Fin 1))).toInt = (s.val : Int) then upd (ix2 n b) else 0 := by
  unfold Host.scatterAdd
  rw [Ideal.hostScatterAdd_def]
  unfold Ideal.hostScatterAdd
  refine congrArg (x (ix2 s b) + ·) ?_
  rw [← Finset.sum_filter]
  symm
  refine Finset.sum_bij (fun n _ => ix2 n b) (fun n hn => ?_) (fun n _ n' _ e => ?_) (fun j hj => ?_) (fun n _ => rfl)
  · rw [Finset.mem_filter] at hn ⊢
    exact ⟨Finset.mem_univ _, (rows_land idx n b s b).2 ⟨hn.2, rfl⟩⟩
  · exact Fin.ext (congrArg Fin.val (congrFun e 0))
  · rw [Finset.mem_filter] at hj
    obtain ⟨n, b', rfl⟩ : ∃ (n : Fin 10000) (b' : Fin 8), j = ix2 n b' := ⟨j 0, j 1, by
      funext a
      match a with
      | ⟨0, _⟩ => rfl
      | ⟨1, _⟩ => rfl⟩
    obtain ⟨hn, rfl⟩ := (rows_land idx n b' s b).1 hj.2
    exact ⟨n, Finset.mem_filter.2 ⟨Finset.mem_univ _, hn⟩, rfl⟩

end Rows

section Blocks

variable (idx : IVec S10000x1 32)

theorem blocks_window0 (n : Fin 10000) (b : Fin 8) (k : Fin 256) :
    blocksDims.window (ix3 n b k) 0 = 0 := rfl

theorem blocks_window1 (n : Fin 10000) (b : Fin 8) (k : Fin 256) :
    blocksDims.window (ix3 n b k) 1 = b.val := rfl

theorem blocks_window2 (n : Fin 10000) (b : Fin 8) (k : Fin 256) :
    blocksDims.window (ix3 n b k) 2 = k.val := rfl

theorem blocks_start0 (n : Fin 10000) (b : Fin 8) (k : Fin 256) :
    blocksDims.start (ix3 n b k) idx 0 = (idx (ix2 n (0 : Fin 1))).toInt := by
  refine congrArg (fun j => (idx j).toInt) (funext fun a => Fin.ext ?_ :
    blocksDims.siIdx (ix3 n b k) ⟨0, by decide⟩ = ix2 n (0 : Fin 1))
  match a with
  | ⟨0, _⟩ => rfl
  | ⟨1, _⟩ => rfl

theorem blocks_start1 (n : Fin 10000) (b : Fin 8) (k : Fin 256) :
    blocksDims.start (ix3 n b k) idx 1 = 0 := rfl

theorem blocks_start2 (n : Fin 10000) (b : Fin 8) (k : Fin 256) :
    blocksDims.start (ix3 n b k) idx 2 = 0 := rfl

/-- Block n of the updates lands in block s exactly when the index of block n, read signed, is s; rows and columns stay. -/
theorem blocks_land (n : Fin 10000) (b' s b : Fin 8) (k' k : Fin 256) :
    blocksDims.resultIdx? (ix3 n b' k') idx = some (ix3 s b k) ↔
      (idx (ix2 n (0 : Fin 1))).toInt = (s.val : Int) ∧ b' = b ∧ k' = k := by
  have hs := s.isLt
  have hb := b'.isLt
  have hk := k'.isLt
  unfold ScatterDims.resultIdx?
  split
  · next h =>
    have h0 := h 0
    change 0 ≤ blocksDims.start (ix3 n b' k') idx 0 + (blocksDims.window (ix3 n b' k') 0 : Int) ∧
      blocksDims.start (ix3 n b' k') idx 0 + (blocksDims.window (ix3 n b' k') 0 : Int) < ((8 : Nat) : Int) at h0
    rw [blocks_start0, blocks_window0] at h0
    constructor
    · intro e
      have e0 := congrArg Fin.val (congrFun (Option.some.inj e) 0)
      have e1 := congrArg Fin.val (congrFun (Option.some.inj e) 1)
      have e2 := congrArg Fin.val (congrFun (Option.some.inj e) 2)
      change (blocksDims.start (ix3 n b' k') idx 0 + (blocksDims.window (ix3 n b' k') 0 : Int)).toNat = s.val at e0
      change (blocksDims.start (ix3 n b' k') idx 1 + (blocksDims.window (ix3 n b' k') 1 : Int)).toNat = b.val at e1
      change (blocksDims.start (ix3 n b' k') idx 2 + (blocksDims.window (ix3 n b' k') 2 : Int)).toNat = k.val at e2
      rw [blocks_start0, blocks_window0] at e0
      rw [blocks_start1, blocks_window1] at e1
      rw [blocks_start2, blocks_window2] at e2
      exact ⟨by omega, Fin.ext (by omega), Fin.ext (by omega)⟩
    · rintro ⟨e, rfl, rfl⟩
      refine congrArg some (funext fun a => Fin.ext ?_)
      match a with
      | ⟨0, _⟩ =>
        show (blocksDims.start (ix3 n b' k') idx 0 + (blocksDims.window (ix3 n b' k') 0 : Int)).toNat = s.val
        rw [blocks_start0, blocks_window0]
        omega
      | ⟨1, _⟩ =>
        show (blocksDims.start (ix3 n b' k') idx 1 + (blocksDims.window (ix3 n b' k') 1 : Int)).toNat = b'.val
        rw [blocks_start1, blocks_window1]
        omega
      | ⟨2, _⟩ =>
        show (blocksDims.start (ix3 n b' k') idx 2 + (blocksDims.window (ix3 n b' k') 2 : Int)).toNat = k'.val
        rw [blocks_start2, blocks_window2]
        omega
  · next h =>
    constructor
    · intro e; cases e
    · rintro ⟨e, rfl, rfl⟩
      refine (h fun a => ?_).elim
      match a with
      | ⟨0, _⟩ =>
        show 0 ≤ blocksDims.start (ix3 n b' k') idx 0 + (blocksDims.window (ix3 n b' k') 0 : Int) ∧
          blocksDims.start (ix3 n b' k') idx 0 + (blocksDims.window (ix3 n b' k') 0 : Int) < ((8 : Nat) : Int)
        rw [blocks_start0, blocks_window0]
        omega
      | ⟨1, _⟩ =>
        show 0 ≤ blocksDims.start (ix3 n b' k') idx 1 + (blocksDims.window (ix3 n b' k') 1 : Int) ∧
          blocksDims.start (ix3 n b' k') idx 1 + (blocksDims.window (ix3 n b' k') 1 : Int) < ((8 : Nat) : Int)
        rw [blocks_start1, blocks_window1]
        omega
      | ⟨2, _⟩ =>
        show 0 ≤ blocksDims.start (ix3 n b' k') idx 2 + (blocksDims.window (ix3 n b' k') 2 : Int) ∧
          blocksDims.start (ix3 n b' k') idx 2 + (blocksDims.window (ix3 n b' k') 2 : Int) < ((256 : Nat) : Int)
        rw [blocks_start2, blocks_window2]
        omega

/-- The scatter of blocks into a table with one block per segment: each entry gains the sum of its place over the blocks
    whose index is its segment. -/
theorem blocks_scatter (x : FVec Ideal S8x8x256 .f32) (upd : FVec Ideal S10000x8x256 .f32) (s b : Fin 8) (k : Fin 256) :
    Host.scatterAdd blocksDims x idx upd (ix3 s b k) =
      x (ix3 s b k) +
        ∑ n : Fin 10000, if (idx (ix2 n (0 : Fin 1))).toInt = (s.val : Int) then upd (ix3 n b k) else 0 := by
  unfold Host.scatterAdd
  rw [Ideal.hostScatterAdd_def]
  unfold Ideal.hostScatterAdd
  refine congrArg (x (ix3 s b k) + ·) ?_
  rw [← Finset.sum_filter]
  symm
  refine Finset.sum_bij (fun n _ => ix3 n b k) (fun n hn => ?_) (fun n _ n' _ e => ?_) (fun j hj => ?_) (fun n _ => rfl)
  · rw [Finset.mem_filter] at hn ⊢
    exact ⟨Finset.mem_univ _, (blocks_land idx n b s b k k).2 ⟨hn.2, rfl, rfl⟩⟩
  · exact Fin.ext (congrArg Fin.val (congrFun e 0))
  · rw [Finset.mem_filter] at hj
    obtain ⟨n, b', k', rfl⟩ : ∃ (n : Fin 10000) (b' : Fin 8) (k' : Fin 256), j = ix3 n b' k' := ⟨j 0, j 1, j 2, by
      funext a
      match a with
      | ⟨0, _⟩ => rfl
      | ⟨1, _⟩ => rfl
      | ⟨2, _⟩ => rfl⟩
    obtain ⟨hn, rfl, rfl⟩ := (blocks_land idx n b' s b k' k).1 hj.2
    exact ⟨n, Finset.mem_filter.2 ⟨Finset.mem_univ _, hn⟩, rfl⟩

end Blocks

/-- The gather of one row per index pair, read where row c's pair is (r, s): the operand's entries (r, s, ·). -/
theorem pair_gather (x : FVec Ideal S8x8x256 .f32) (idx : IVec S8x2 32) (c r s : Fin 8) (k : Fin 256)
    (h0 : idx (ix2 c (0 : Fin 2)) = BitVec.ofNat 32 r.val) (h1 : idx (ix2 c (1 : Fin 2)) = BitVec.ofNat 32 s.val) :
    Host.gather pairDims x idx (ix2 c k) = x (ix3 r s k) := by
  have hr := r.isLt
  have hs := s.isLt
  unfold Host.gather
  refine congrArg x (funext fun a => Fin.ext ?_)
  match a with
  | ⟨0, _⟩ =>
    have hi : pairDims.siIdx (ix2 c k) ⟨0, by decide⟩ = ix2 c (0 : Fin 2) := by
      funext a
      match a with
      | ⟨0, _⟩ => rfl
      | ⟨1, _⟩ => rfl
    show min (idx (pairDims.siIdx (ix2 c k) ⟨0, by decide⟩)).toInt.toNat 7 + 0 + 0 = r.val
    rw [hi, h0, StableHlo.Predicate.toInt_ofNat_small _ (by omega)]
    omega
  | ⟨1, _⟩ =>
    have hi : pairDims.siIdx (ix2 c k) ⟨1, by decide⟩ = ix2 c (1 : Fin 2) := by
      funext a
      match a with
      | ⟨0, _⟩ => rfl
      | ⟨1, _⟩ => rfl
    show min (idx (pairDims.siIdx (ix2 c k) ⟨1, by decide⟩)).toInt.toNat 7 + 0 + 0 = s.val
    rw [hi, h1, StableHlo.Predicate.toInt_ofNat_small _ (by omega)]
    omega
  | ⟨2, _⟩ =>
    show 0 + 0 + k.val = k.val
    omega

end Cert.ReferenceIdeal.RefValue
end
-- ==== Proof.RefRead.lean ====
module
public import proofs.«01_k».proof.Proof.Landing
public import proofs.«01_k».proof.Proof.Spec

/-!
# The reference computes the formulas

Each stage of the reference, read at an entry, is the formula of that name; the three results follow.
-/

@[expose] public section

set_option maxRecDepth 16384

noncomputable section

namespace Cert.ReferenceIdeal.RefValue

open Cert.ReferenceIdeal Cert.ReferenceIdeal.Gen Cert.ReferenceIdeal.Value
open Idealize.ShloMosaic Idealize.ShloMosaic.TcCoe
open SegmentAttention

variable (m : (ℓ : Loc nD τ sig) → Buf (Elt Ideal) ℓ) (c : Dev nD)

/-- The sixteen arrays as the reference holds them. -/
def inputs : Inputs where
  x := m ((c.tc : Thread nD τ).loc main_arg0)
  h := m ((c.tc : Thread nD τ).loc main_arg1)
  nodes := m ((c.tc : Thread nD τ).loc main_arg2)
  seg := m ((c.tc : Thread nD τ).loc main_arg3)
  encW := m ((c.tc : Thread nD τ).loc main_arg4)
  encB := m ((c.tc : Thread nD τ).loc main_arg5)
  inW := m ((c.tc : Thread nD τ).loc main_arg6)
  hidW := m ((c.tc : Thread nD τ).loc main_arg7)
  inB := m ((c.tc : Thread nD τ).loc main_arg8)
  hidB := m ((c.tc : Thread nD τ).loc main_arg9)
  projW := m ((c.tc : Thread nD τ).loc main_arg10)
  projB := m ((c.tc : Thread nD τ).loc main_arg11)
  compW := m ((c.tc : Thread nD τ).loc main_arg12)
  compB := m ((c.tc : Thread nD τ).loc main_arg13)
  outW := m ((c.tc : Thread nD τ).loc main_arg14)
  outB := m ((c.tc : Thread nD τ).loc main_arg15)

section Stages

variable (I : Inputs)

/-- The encoder at an entry. -/
theorem encoded_apply (b : Fin 8) (k : Fin 256) : encoded I.x I.encW I.encB (ix3 (0 : Fin 1) b k) = I.enc b k := by
  pointwise [encoded]
  rfl

/-- The encoder as rows, at an entry. -/
theorem encodedRows_apply (b : Fin 8) (k : Fin 256) :
    shapeCast S8x256 (encoded I.x I.encW I.encB) shapeCasts_S1x8x256_S8x256 (ix2 b k) = I.enc b k := by
  pointwise []
  exact encoded_apply I b k

/-- A block of gates at an entry. -/
theorem gates_apply (a : FVec Ideal S8x256 .f32) (W : FVec Ideal S768x256 .f32) (v : FVec Ideal S768 .f32)
    (b : Fin 8) (j : Fin 768) : gates a W v (ix2 b j) = ∑ i, a (ix2 b i) * W (ix2 j i) + v (ix1 j) := by
  pointwise [gates]

/-- The update at an entry. -/
theorem update_apply (h : FVec Ideal S8x256 .f32) (gx gh : FVec Ideal S8x768 .f32) (b : Fin 8) (k : Fin 256) :
    update h gx gh (ix2 b k) =
      (1 - Ideal.logistic (gx (ix2 b (Inputs.updCol k)) + gh (ix2 b (Inputs.updCol k)))) *
          Ideal.tanh (gx (ix2 b (Inputs.newCol k)) +
            Ideal.logistic (gx (ix2 b (Inputs.resetCol k)) + gh (ix2 b (Inputs.resetCol k))) *
              gh (ix2 b (Inputs.newCol k))) +
        Ideal.logistic (gx (ix2 b (Inputs.updCol k)) + gh (ix2 b (Inputs.updCol k))) * h (ix2 b k) := by
  pointwise [update, sigm, ones]
  rfl

/-- The new hidden state at an entry. -/
theorem hidden_apply (b : Fin 8) (k : Fin 256) :
    hidden I.x I.h I.encW I.encB I.inW I.hidW I.inB I.hidB (ix2 b k) = I.hid b k := by
  have eh : ∀ i : Fin 256, shapeCast S8x256 I.h shapeCasts_S1x8x256_S8x256 (ix2 b i) = I.h (ix3 (0 : Fin 1) b i) := by
    intro i
    pointwise []
  have ex : ∀ j : Fin 768,
      gates (shapeCast S8x256 (encoded I.x I.encW I.encB) shapeCasts_S1x8x256_S8x256) I.inW I.inB (ix2 b j) = I.gx b j := by
    intro j
    rw [gates_apply]
    simp only [encodedRows_apply]
    rfl
  have eg : ∀ j : Fin 768,
      gates (shapeCast S8x256 I.h shapeCasts_S1x8x256_S8x256) I.hidW I.hidB (ix2 b j) = I.gh b j := by
    intro j
    rw [gates_apply]
    simp only [eh]
    rfl
  unfold hidden
  rw [update_apply]
  simp only [ex, eg, eh]
  rfl

/-- The queries at an entry, over a hidden state given entry by entry. -/
theorem query_apply (h : FVec Ideal S8x256 .f32) (hh : ∀ b k, h (ix2 b k) = I.hid b k) (b : Fin 8) (k : Fin 256) :
    query (hidden3 h) I.projW I.projB (ix3 (0 : Fin 1) b k) = I.query b k := by
  pointwise [query, hidden3]
  simp only [hh]
  rfl

/-- The scores at an entry, over queries given entry by entry. -/
theorem scores_apply (q : FVec Ideal S1x8x256 .f32) (hq : ∀ b k, q (ix3 (0 : Fin 1) b k) = I.query b k)
    (n : Fin 10000) (b : Fin 8) : scores q I.nodes (ix2 n b) = I.score b n := by
  pointwise [scores]
  simp only [hq]
  rfl

/-- A word read signed is a small number exactly when it is that number's word. -/
theorem toInt_eq_iff (v : BitVec 32) (s : Fin 8) : v.toInt = (s.val : Int) ↔ v = BitVec.ofNat 32 s.val := by
  have hs : (BitVec.ofNat 32 s.val).toInt = (s.val : Int) := StableHlo.Predicate.toInt_ofNat_small _ (by omega)
  rw [← hs]
  exact BitVec.toInt_inj

/-- A node's row of a table is its segment's. -/
theorem ofSegment_apply (x : FVec Ideal S8x8 .f32) (seg : IVec S10000 32) (n : Fin 10000) (b s : Fin 8)
    (hs : seg (ix1 n) = BitVec.ofNat 32 s.val) : ofSegment x seg (ix2 n b) = x (ix2 s b) := by
  unfold ofSegment
  refine Routing.gather_row _ rfl rfl rfl rfl rfl x _ n b s ?_ (by decide)
  pointwise [rowIndex]
  rw [hs]
  clear hs
  revert s
  decide

/-- The largest score of a populated segment is a real number. -/
theorem segMax_real (t : FVec Ideal S10000x8 .f32) (seg : IVec S10000 32)
    (ht : ∀ n b, ∃ r : ℝ, t (ix2 n b) = (r : EReal)) (s b : Fin 8)
    (hs : ∃ n : Fin 10000, seg (ix1 n) = BitVec.ofNat 32 s.val) : ∃ r : ℝ, segMax t seg (ix2 s b) = (r : EReal) := by
  pointwise [segMax]
  have ei : id (constant (F := Ideal) S_ .f32 0xFF800000#32) ix0 = (⊥ : EReal) := negInf
  rw [negInf]
  refine fold_max_real _ _ (fun n => ?_) ?_
  · obtain ⟨r, hr⟩ := ht n b
    rw [hr, ei]
    show (if _ then _ else _) ≠ _
    split
    · exact EReal.coe_ne_top r
    · exact bot_ne_top
  · obtain ⟨n, hn⟩ := hs
    obtain ⟨r, hr⟩ := ht n b
    refine ⟨n, Finset.mem_univ _, r, ?_⟩
    rw [hn, ← hr]
    simp [Scalar.select, IntOp.cmpi]

/-- The weights over a segment: the scores' exponentials times one number of the segment's. -/
theorem weights_apply (g : I.Good) (t : FVec Ideal S10000x8 .f32) (ht : ∀ n b, t (ix2 n b) = I.score b n) (s b : Fin 8) :
    ∃ r : ℝ, ∀ n, I.seg (ix1 n) = BitVec.ofNat 32 s.val →
      weights t I.seg (ix2 n b) = ((I.expScore b n * Real.exp (-r) : ℝ) : EReal) := by
  obtain ⟨r, hr⟩ := segMax_real t I.seg (fun n b => by rw [ht]; exact score_real g b n) s b (g.populated s)
  refine ⟨r, fun n hn => ?_⟩
  pointwise [weights]
  rw [ofSegment_apply _ _ n b s hn, hr, ht, score_eq g, exp_sub, Inputs.expScore, sub_eq_add_neg, Real.exp_add]

/-- The attention at an entry. -/
theorem attention_apply (g : I.Good) (t : FVec Ideal S10000x8 .f32) (ht : ∀ n b, t (ix2 n b) = I.score b n)
    (b : Fin 8) (n : Fin 10000) : attention (weights t I.seg) I.seg (ix2 b n) = ((I.att b n : ℝ) : EReal) := by
  obtain ⟨s, hs⟩ := g.range n
  obtain ⟨r, hr⟩ := weights_apply I g t ht s b
  have hsum : segSum (weights t I.seg) I.seg (ix2 s b) =
      ((I.total b (BitVec.ofNat 32 s.val) * Real.exp (-r) : ℝ) : EReal) := by
    unfold segSum
    rw [rows_scatter]
    have e0 : broadcastInDim S8x8 ![] bcast_S_S8x8 (constant (F := Ideal) S_ .f32 0x00000000#32) (ix2 s b) = (0 : EReal) := by
      pointwise []
    rw [e0, zero_add, Inputs.total, Finset.sum_mul, coe_sum]
    refine Finset.sum_congr rfl fun n' _ => ?_
    have ec : segColumn I.seg (ix2 n' (0 : Fin 1)) = I.seg (ix1 n') := by pointwise [segColumn]
    rw [ec]
    by_cases h : I.seg (ix1 n') = BitVec.ofNat 32 s.val
    · rw [if_pos ((toInt_eq_iff _ s).2 h), if_pos h, hr n' h]
    · rw [if_neg fun e => h ((toInt_eq_iff _ s).1 e), if_neg h, zero_mul, EReal.coe_zero]
  have hp := total_pos b _ n hs
  pointwise [attention]
  rw [ofSegment_apply _ _ n b s hs, hr n hs, hsum, div_real _ (mul_pos hp (Real.exp_pos _)).ne',
    mul_div_mul_right _ _ (Real.exp_pos _).ne', Inputs.att, hs]

/-- The contexts on the diagonal. -/
theorem context_apply (g : I.Good) (a : FVec Ideal S8x10000 .f32) (ha : ∀ b n, a (ix2 b n) = ((I.att b n : ℝ) : EReal))
    (b : Fin 8) (k : Fin 256) :
    diagonal (contexts (weighted a I.nodes) I.seg) (ix2 b k) = ((I.ctx b k : ℝ) : EReal) := by
  unfold diagonal
  rw [pair_gather _ _ b b b k (by pointwise [diagIndex, fn_main_v114, diagColumn]; revert b; decide)
    (by pointwise [diagIndex, fn_main_v114, diagColumn]; revert b; decide)]
  unfold contexts
  rw [blocks_scatter]
  have e0 : broadcastInDim S8x8x256 ![] bcast_S_S8x8x256 (constant (F := Ideal) S_ .f32 0x00000000#32) (ix3 b b k) = (0 : EReal) := by
    pointwise []
  rw [e0, zero_add, Inputs.ctx, coe_sum]
  refine Finset.sum_congr rfl fun n _ => ?_
  have ec : segColumn I.seg (ix2 n (0 : Fin 1)) = I.seg (ix1 n) := by pointwise [segColumn]
  have ew : weighted a I.nodes (ix3 n b k) = a (ix2 b n) * I.nodes (ix2 n k) := by pointwise [weighted]
  rw [ec]
  by_cases h : I.seg (ix1 n) = BitVec.ofNat 32 b.val
  · rw [if_pos ((toInt_eq_iff _ b).2 h), if_pos h, ew, ha, node_eq g n k, EReal.coe_mul, EReal.toReal_coe]
  · rw [if_neg fun e => h ((toInt_eq_iff _ b).1 e), if_neg h, EReal.coe_zero]

/-- The joined rows at an entry. -/
theorem joined_apply (q : FVec Ideal S1x8x256 .f32) (x : FVec Ideal S8x256 .f32) (e : FVec Ideal S1x8x256 .f32)
    (hq : ∀ b k, q (ix3 (0 : Fin 1) b k) = I.query b k) (hx : ∀ b k, x (ix2 b k) = ((I.ctx b k : ℝ) : EReal))
    (he : ∀ b k, e (ix3 (0 : Fin 1) b k) = I.enc b k) (b : Fin 8) (j : Fin 768) :
    joined q x e (ix2 b j) = I.joined b j := by
  pointwise [joined, fn_main_v118]
  simp only [hq, hx, he]
  rfl

/-- The output at an entry, over joined rows given entry by entry. -/
theorem output_apply (x : FVec Ideal S8x768 .f32) (hx : ∀ b j, x (ix2 b j) = I.joined b j) (b : Fin 8) (k : Fin 512) :
    output (composed x I.compW I.compB) I.outW I.outB (ix2 b k) = I.out b k := by
  pointwise [output, composed]
  simp only [hx]
  rfl

end Stages

/-- The hidden state of the arguments at an entry. -/
theorem argHidden_apply (b : Fin 8) (k : Fin 256) : argHidden m c (ix2 b k) = (inputs m c).hid b k :=
  hidden_apply (inputs m c) b k

/-- The queries of the arguments at an entry. -/
theorem argQuery_apply (b : Fin 8) (k : Fin 256) : argQuery m c (ix3 (0 : Fin 1) b k) = (inputs m c).query b k :=
  query_apply (inputs m c) _ (argHidden_apply m c) b k

/-- The scores of the arguments at an entry. -/
theorem argScores_apply (n : Fin 10000) (b : Fin 8) : argScores m c (ix2 n b) = (inputs m c).score b n :=
  scores_apply (inputs m c) _ (argQuery_apply m c) n b

/-- The attention of the arguments at an entry. -/
theorem argAttention_apply (g : (inputs m c).Good) (b : Fin 8) (n : Fin 10000) :
    argAttention m c (ix2 b n) = (((inputs m c).att b n : ℝ) : EReal) :=
  attention_apply (inputs m c) g _ (argScores_apply m c) b n

/-- The reference's first result at an entry. -/
theorem res0_apply (g : (inputs m c).Good) (b : Fin 8) (k : Fin 512) : res_out0 m c (ix2 b k) = (inputs m c).out b k := by
  rw [res0_eq]
  exact output_apply (inputs m c) _ (joined_apply (inputs m c) _ _ _ (argQuery_apply m c)
    (context_apply (inputs m c) g _ (argAttention_apply m c g)) (encoded_apply (inputs m c))) b k

/-- The reference's second result at an entry. -/
theorem res1_apply (b : Fin 8) (k : Fin 256) : res_out1 m c (ix3 (0 : Fin 1) b k) = (inputs m c).hid b k := by
  rw [res1_eq]
  pointwise [hidden3]
  exact argHidden_apply m c b k

/-- The reference's third result at an entry. -/
theorem res2_apply (g : (inputs m c).Good) (b : Fin 8) (n : Fin 10000) :
    res_out2 m c (ix2 b n) = (((inputs m c).att b n : ℝ) : EReal) := by
  rw [res2_eq]
  exact argAttention_apply m c g b n

end Cert.ReferenceIdeal.RefValue
end
-- ==== Proof.PreRead.lean ====
module

public import proofs.«01_k».proof.Pre_finite_and_populated
public import proofs.«01_k».proof.Proof.Spec
public import Idealize.ShloMosaic.Lib.ReduceAll
public import Idealize.ShloMosaic.Lib.WordCmp

/-!
# What the precondition says

The predicate is a conjunction of tests over whole arrays. Where it holds, the entries it tests are real numbers, every
node's segment is one of the eight, and every segment has a node.
-/

@[expose] public section

set_option maxRecDepth 16384

noncomputable section

namespace SegmentAttention

open Idealize.ShloMosaic
open Cert.Pre_finite_and_populated

/-- The shape relations the predicate's operations take. -/
theorem preFacts : Facts where
  bcast_S_S1x8x256 := by decide
  reducesTo_S1x8x256_S_d0_1_2 := by decide
  h_S_ := by decide
  bcast_S_S10000x256 := by decide
  reducesTo_S10000x256_S_d0_1 := by decide
  bcast_S_S256x256 := by decide
  reducesTo_S256x256_S_d0_1 := by decide
  bcast_S_S256 := by decide
  reducesTo_S256_S_d0 := by decide
  bcast_S_S10000 := by decide
  reducesTo_S10000_S_d0 := by decide
  bcast_S10000_S10000x1_0 := by decide
  bcast_S8_S1x8_1 := by decide
  bcast_S10000x1_S10000x8_0_1 := by decide
  bcast_S1x8_S10000x8_0_1 := by decide
  reducesTo_S10000x8_S8_d0 := by decide
  reducesTo_S8_S_d0 := by decide

/-- The pattern of the upper infinity denotes it. -/
theorem posInf : Ideal.ofBits .f32 0x7F800000#32 = ⊤ := by simp [Ideal.ofBits, Ideal.ieee]

/-- A number whose absolute value tests below the upper infinity is real. -/
theorem real_of_test (x : EReal) (h : Ideal.cmp .olt (max x (-x)) (Ideal.ofBits .f32 0x7F800000#32) = 1#1) :
    ∃ r : ℝ, x = (r : EReal) := by
  rw [posInf] at h
  have hlt : max x (-x) < ⊤ := by
    by_contra hn
    simp [Ideal.cmp, hn] at h
  refine real_of_ne ?_ ?_
  · rintro rfl
    simp at hlt
  · rintro rfl
    simp at hlt

/-- A word that tests at least 0 and below 8 is the number of a segment. -/
theorem segment_of_test (v : BitVec 32) (h : IntOp.andi (IntOp.cmpi .sge v 0#32) (IntOp.cmpi .slt v 8#32) = 1#1) :
    ∃ s : Fin 8, v = BitVec.ofNat 32 s.val := by
  have e := WordCmp.andi_sge_zero_slt_ofNat (w := 32) (k := 8) (by decide) v
  rw [show BitVec.ofNat 32 8 = 8#32 from rfl, h] at e
  have hv : v.toNat < 8 := by
    by_contra hn
    simp [hn] at e
  exact ⟨⟨v.toNat, hv⟩, BitVec.eq_of_toNat_eq (by simp [Nat.mod_eq_of_lt (show v.toNat < 4294967296 by omega)])⟩

/-- A left fold by `or` that starts at 0 and comes out 1 met a 1. -/
theorem foldl_ori_one {α : Type} (f : α → BitVec 1) : ∀ (l : List α) (b : BitVec 1),
    l.foldl (fun r n => IntOp.ori r (f n)) b = 1#1 → b = 1#1 ∨ ∃ n ∈ l, f n = 1#1
  | [], _, h => .inl h
  | a :: l, b, h => by
    rcases foldl_ori_one f l _ h with hb | ⟨n, hn, e⟩
    · rcases IntOp.ori_eq_one.1 hb with hb | ha
      · exact .inl hb
      · exact .inr ⟨a, List.mem_cons_self, ha⟩
    · exact .inr ⟨n, List.mem_cons_of_mem _ hn, e⟩

/-- A reduction by `or` from 0 that is 1 at an entry met a 1 at an index dropping to it. -/
theorem exists_of_reduce {s t u : Shape} {axes : List (Fin s.rank)} (x : s.Idx → BitVec 1) (init : u.Idx → BitVec 1)
    (h : s.ReducesTo axes t) (hu : 0 < u.numel) (j : t.Idx) (h0 : init (Shape.Idx.first hu) = 0#1)
    (e : Host.reduce IntOp.ori x init h hu j = 1#1) : ∃ i, h.drop i = j ∧ x i = 1#1 := by
  rcases foldl_ori_one (fun n => x (s.rowMajor.symm n)) _ _ e with hb | ⟨n, hn, hx⟩
  · rw [h0] at hb
    exact absurd hb (by decide)
  · exact ⟨_, by simpa using (List.mem_filter.1 hn).2, hx⟩

/-- The membership table of the predicate at an entry. -/
theorem member_test [Facts] (v : IVec S10000 32) (i : S10000x8.Idx)
    (h : cmpi .eq
        (broadcastInDim S10000x8 ![0, 1] Facts.bcast_S10000x1_S10000x8_0_1
          (broadcastInDim S10000x1 ![0] Facts.bcast_S10000_S10000x1_0 v))
        (broadcastInDim S10000x8 ![0, 1] Facts.bcast_S1x8_S10000x8_0_1
          (broadcastInDim S1x8 ![1] Facts.bcast_S8_S1x8_1 (iotaInDim S8 32 0))) i = 1#1) :
    v (ix1 (i 0)) = BitVec.ofNat 32 (i 1).val := by
  have e : IntOp.cmpi .eq (v (ix1 (i 0))) (BitVec.ofNat 32 (i 1).val) = 1#1 := by
    have hi : i = ix2 (n0 := 10000) (n1 := 8) (i 0) (i 1) := by
      funext a
      match a with
      | ⟨0, _⟩ => rfl
      | ⟨1, _⟩ => rfl
    rw [hi] at h
    revert h
    generalize (i 0 : Fin 10000) = n
    generalize (i 1 : Fin 8) = s
    pointwise []
    exact id
  by_contra hn
  have hf : (v (ix1 (i 0)) == BitVec.ofNat 32 (i 1).val) = false := by simpa using hn
  simp [IntOp.cmpi, hf] at e

/-- Where the predicate is one, the inputs are as the proof needs them. -/
theorem good_of_pre [Facts] (I : Inputs)
    (e : fn (F := Ideal) I.x I.h I.nodes I.seg I.encW I.encB I.inW I.hidW I.inB I.hidB I.projW I.projB I.compW I.compB
      I.outW I.outB = fun _ => 1#1) : I.Good := by
  haveI : Subsingleton S_.Idx := ⟨fun a b => funext fun k => k.elim0⟩
  have e0 := congrFun e (fun k => k.elim0)
  unfold fn fn_part1 at e0
  dsimp only at e0
  obtain ⟨e0, hpop⟩ := IntOp.andi_eq_one.1 e0
  obtain ⟨e0, hrange⟩ := IntOp.andi_eq_one.1 e0
  obtain ⟨e0, hpb⟩ := IntOp.andi_eq_one.1 e0
  obtain ⟨e0, hpw⟩ := IntOp.andi_eq_one.1 e0
  obtain ⟨hh, hn⟩ := IntOp.andi_eq_one.1 e0
  constructor
  · exact fun b k => real_of_test _ (Host.reduce_andi_all _ _ _ _ _ hh (ix3 (0 : Fin 1) b k))
  · exact fun n k => real_of_test _ (Host.reduce_andi_all _ _ _ _ _ hn (ix2 n k))
  · exact fun i k => real_of_test _ (Host.reduce_andi_all _ _ _ _ _ hpw (ix2 i k))
  · exact fun k => real_of_test _ (Host.reduce_andi_all _ _ _ _ _ hpb (ix1 k))
  · exact fun n => segment_of_test _ (Host.reduce_andi_all _ _ _ _ _ hrange (ix1 n))
  · intro s
    obtain ⟨i, hi, hx⟩ := exists_of_reduce _ _ _ _ _ rfl (Host.reduce_andi_all _ _ _ _ _ hpop (ix1 s))
    have hv := member_test I.seg i hx
    have hs : (i 1).val = s.val := by
      have := congrArg (fun j : S8.Idx => (j 0).val) hi
      rw [show (ix1 s : S8.Idx) 0 = s from rfl] at this
      exact (Shape.ReducesTo.drop_apply_val Facts.reducesTo_S10000x8_S8_d0 i 0).symm.trans this
    rw [hs] at hv
    exact ⟨i 0, hv⟩

end SegmentAttention
end
-- ==== Proof.lean ====
/-
  The certificate of the decoder step: the frames of the three programs, and that the kernel and the reference compute the
  same three arrays over the extended reals where the precondition holds.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelRead
public import proofs.«01_k».proof.Proof.RefRead
public import proofs.«01_k».proof.Proof.PreRead
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem SegmentAttention

/-- The reference runs, leaves its arguments as they were, and has no counter that could end above zero. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- Equal arguments make equal inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) =
          m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) =
          m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) =
          m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) =
          m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) =
          m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) =
          m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) =
          m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) =
          m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) =
          m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) =
          m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) =
          m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) =
          m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) =
          m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) =
          m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) =
          m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) =
          m ((c.tc : Thread Cert.KernelIdeal.nD Cert.KernelIdeal.τ).loc Cert.KernelIdeal.main_arg15)) :
    Cert.ReferenceIdeal.RefValue.inputs m' c = Cert.KernelIdeal.Run.inputs m c := by
  obtain ⟨h0, h1, h2, h3, h4, h5, h6, h7, h8, h9, h10, h11, h12, h13, h14, h15⟩ := h
  unfold Cert.ReferenceIdeal.RefValue.inputs Cert.KernelIdeal.Run.inputs
  rw [h0, h1, h2, h3, h4, h5, h6, h7, h8, h9, h10, h11, h12, h13, h14, h15]

/-- The output is the reference's. -/
theorem output_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (e : Cert.ReferenceIdeal.RefValue.inputs m' c = Cert.KernelIdeal.Run.inputs m c)
    (g : (Cert.KernelIdeal.Run.inputs m c).Good) :
    Cert.ReferenceIdeal.Value.res_out0 m' c = Cert.KernelIdeal.Run.outRows (Cert.KernelIdeal.Run.inputs m c) := by
  funext j
  obtain ⟨b, k, rfl⟩ := Cert.KernelIdeal.Run.idx_eq (p := 8) (r := 512) j
  exact (Cert.ReferenceIdeal.RefValue.res0_apply m' c (e ▸ g) b k).trans
    ((congrArg (fun I : Inputs => I.out b k) e).trans (Cert.KernelIdeal.Run.outRows_apply _ g b k).symm)

/-- The hidden state is the reference's. -/
theorem hidden_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (e : Cert.ReferenceIdeal.RefValue.inputs m' c = Cert.KernelIdeal.Run.inputs m c) :
    Cert.ReferenceIdeal.Value.res_out1 m' c = Cert.KernelIdeal.Run.hidRows (Cert.KernelIdeal.Run.inputs m c) := by
  funext j
  have hj : j = ix3 (n0 := 1) (n1 := 8) (n2 := 256) (0 : Fin 1) (j 1) (j 2) := by
    funext a
    match a with
    | ⟨0, _⟩ => exact Subsingleton.elim (α := Fin 1) _ _
    | ⟨1, _⟩ => rfl
    | ⟨2, _⟩ => rfl
  rw [hj]
  exact (Cert.ReferenceIdeal.RefValue.res1_apply m' c (j 1) (j 2)).trans
    ((congrArg (fun I : Inputs => I.hid (j 1) (j 2)) e).trans (Cert.KernelIdeal.Run.hidRows_apply _ (j 1) (j 2)).symm)

/-- The attention weights are the reference's. -/
theorem attention_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (e : Cert.ReferenceIdeal.RefValue.inputs m' c = Cert.KernelIdeal.Run.inputs m c)
    (g : (Cert.KernelIdeal.Run.inputs m c).Good) :
    Cert.ReferenceIdeal.Value.res_out2 m' c = Cert.KernelIdeal.Run.attRows (Cert.KernelIdeal.Run.inputs m c) := by
  funext j
  obtain ⟨b, n, rfl⟩ := Cert.KernelIdeal.Run.idx_eq (p := 8) (r := 10000) j
  exact (Cert.ReferenceIdeal.RefValue.res2_apply m' c (e ▸ g) b n).trans
    ((congrArg (fun I : Inputs => ((I.att b n : ℝ) : EReal)) e).trans (Cert.KernelIdeal.Run.attRows_apply _ g b n).symm)

/-- Kernel and reference compute the same three arrays over the extended reals, where the precondition holds. -/
theorem same_results :
    Cert.algebraic_KernelIdeal_ReferenceIdeal_pre_finite_and_populated (hPre_finite_and_populated := preFacts) := by
  intro m g m' g' hpre hargs
  letI := preFacts
  have good : ∀ c, (Cert.KernelIdeal.Run.inputs m c).Good := fun c => good_of_pre _ (hpre c)
  have same : ∀ c, Cert.ReferenceIdeal.RefValue.inputs m' c = Cert.KernelIdeal.Run.inputs m c :=
    fun c => inputs_eq m m' c (hargs c)
  refine ⟨fun c => Cert.KernelIdeal.Run.outRows (Cert.KernelIdeal.Run.inputs m c),
    fun c => Cert.KernelIdeal.Run.hidRows (Cert.KernelIdeal.Run.inputs m c),
    fun c => Cert.KernelIdeal.Run.attRows (Cert.KernelIdeal.Run.inputs m c), ?_, ?_⟩
  · refine (θ_run Cert.KernelIdeal.defs _ _).mono (fun r h c => ?_) (Cert.KernelIdeal.Value.run_blocks m g)
    obtain ⟨e0, e1, e2, e⟩ := h c
    exact ⟨e0.trans (Cert.KernelIdeal.Run.final15 m c), e1.trans (Cert.KernelIdeal.Run.final16 m c),
      e2.trans (Cert.KernelIdeal.Run.final17 m c), e⟩
  · refine (θ_run Cert.ReferenceIdeal.defs _ _).mono (fun r h c => ?_) (Cert.ReferenceIdeal.Value.run (F := Ideal) m' g')
    obtain ⟨e0, e1, e2, e⟩ := h c
    exact ⟨e0.trans (output_eq m m' c (same c) (good c)), e1.trans (hidden_eq m m' c (same c)),
      e2.trans (attention_eq m m' c (same c) (good c)), e⟩

/-- The five claims. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial,
    same_results⟩

end Cert.Proof

end
